-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x77 : Shape := ⟨2, ![1024, 77]⟩
abbrev S1024x77x768 : Shape := ⟨3, ![1024, 77, 768]⟩
abbrev S1x768 : Shape := ⟨2, ![1, 768]⟩
abbrev S77x1024x768 : Shape := ⟨3, ![77, 1024, 768]⟩
abbrev S77x1024 : Shape := ⟨2, ![77, 1024]⟩
abbrev S1x1x768 : Shape := ⟨3, ![1, 1, 768]⟩
abbrev S10x1x512x768 : Shape := ⟨4, ![10, 1, 512, 768]⟩
abbrev S_ : Shape := ⟨0, ![]⟩
abbrev S10 : Shape := ⟨1, ![10]⟩
abbrev S1 : Shape := ⟨1, ![1]⟩
abbrev S1x1x512x768 : Shape := ⟨4, ![1, 1, 512, 768]⟩
abbrev S1x512x768 : Shape := ⟨3, ![1, 512, 768]⟩
abbrev S1x512 : Shape := ⟨2, ![1, 512]⟩
abbrev S1x512x1 : Shape := ⟨3, ![1, 512, 1]⟩

abbrev nBuf : Space → Nat
  | .hbm => 8
  | .vmem => 4
  | .smem => 0
  | _ => 0

abbrev bufTy : (tb : Table) → Fin (tcTables nBuf tb) → BufTy
  | .hbm, ⟨0, _⟩ => ⟨S1024x77, .i32⟩
  | .hbm, ⟨1, _⟩ => ⟨S1024x77x768, .f32⟩
  | .hbm, ⟨2, _⟩ => ⟨S1x768, .f32⟩
  | .hbm, ⟨3, _⟩ => ⟨S77x1024x768, .f32⟩
  | .hbm, ⟨4, _⟩ => ⟨S77x1024, .i32⟩
  | .hbm, ⟨5, _⟩ => ⟨S1x1x768, .f32⟩
  | .hbm, ⟨6, _⟩ => ⟨S77x1024x768, .f32⟩
  | .hbm, ⟨7, _⟩ => ⟨S1024x77x768, .f32⟩
  | .local _ .vmem, ⟨0, _⟩ => ⟨S77x1024, .i32⟩
  | .local _ .vmem, ⟨1, _⟩ => ⟨S1x1x768, .f32⟩
  | .local _ .vmem, ⟨2, _⟩ => ⟨S10x1x512x768, .f32⟩
  | .local _ .vmem, ⟨3, _⟩ => ⟨S10x1x512x768, .f32⟩
  | _, _ => ⟨S1024x77, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_v0 : Ref sig .tc := ⟨.hbm, 7, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩

abbrev nD : Nat := 1
abbrev τ : Topo := Topo.v7x

variable {F : FTy → Type} [FloatOps F]

abbrev grid0 : Pipeline.Grid := .none

@[reducible] def k0_t1_loop : Scf.Loop 32 :=
  let c0_i32_69 : BitVec 32 := 0#32
  let c154_i32 : BitVec 32 := 154#32
  let v50 : BitVec 32 := Scalar.addi c0_i32_69 c154_i32
  let c1_i32_70 : BitVec 32 := 1#32
  ⟨c0_i32_69, v50, c1_i32_70⟩
def k0_off1 (k0_t1 : Fin k0_t1_loop.trips) : Fin 1 → Nat :=
  let c0_i32_69 : BitVec 32 := 0#32
  let c1_i32_70 : BitVec 32 := 1#32
  let arg12 : BitVec 32 := Scf.iv c0_i32_69 c1_i32_70 k0_t1
  let c10_i32 : BitVec 32 := 10#32
  let v101 : BitVec 32 := Scalar.remsi arg12 c10_i32
  ![v101.toNat]
def k0_off2 (k0_t1 : Fin k0_t1_loop.trips) : Fin 4 → Nat :=
  let c0_i32_69 : BitVec 32 := 0#32
  let c1_i32_70 : BitVec 32 := 1#32
  let arg12 : BitVec 32 := Scf.iv c0_i32_69 c1_i32_70 k0_t1
  let c10_i32 : BitVec 32 := 10#32
  let v101 : BitVec 32 := Scalar.remsi arg12 c10_i32
  let c0_i32_161 : BitVec 32 := 0#32
  let c0_i32_162 : BitVec 32 := 0#32
  let c0_i32_163 : BitVec 32 := 0#32
  ![v101.toNat, 0, 0, 0]
def k0_off3 (k0_t1 : Fin k0_t1_loop.trips) : Fin 3 → Nat :=
  let c0_i32_69 : BitVec 32 := 0#32
  let c1_i32_70 : BitVec 32 := 1#32
  let arg12 : BitVec 32 := Scf.iv c0_i32_69 c1_i32_70 k0_t1
  let c0_i32_148 : BitVec 32 := 0#32
  let v103 : BitVec 1 := Scalar.cmpi .sgt arg12 c0_i32_148
  let v104 : BitVec 32 := Scalar.extui v103
  let c0_i32_149 : BitVec 32 := 0#32
  let v105 : BitVec 1 := Scalar.cmpi .slt arg12 c0_i32_149
  let v106 : BitVec 32 := Scalar.extui v105
  let v107 : BitVec 32 := Scalar.subi v104 v106
  let c2_i32_147 : BitVec 32 := 2#32
  let c0_i32_150 : BitVec 32 := 0#32
  let v108 : BitVec 1 := Scalar.cmpi .sgt c2_i32_147 c0_i32_150
  let v109 : BitVec 32 := Scalar.extui v108
  let c0_i32_151 : BitVec 32 := 0#32
  let v110 : BitVec 1 := Scalar.cmpi .slt c2_i32_147 c0_i32_151
  let v111 : BitVec 32 := Scalar.extui v110
  let v112 : BitVec 32 := Scalar.subi v109 v111
  let v113 : BitVec 1 := Scalar.cmpi .ne v107 v112
  let v114 : BitVec 32 := Scalar.remsi arg12 c2_i32_147
  let c0_i32_152 : BitVec 32 := 0#32
  let v115 : BitVec 1 := Scalar.cmpi .ne v114 c0_i32_152
  let v116 : BitVec 1 := Scalar.andi v113 v115
  let v102 : BitVec 32 := Scalar.divsi arg12 c2_i32_147
  let c1_i32_153 : BitVec 32 := 1#32
  let v117 : BitVec 32 := Scalar.subi v102 c1_i32_153
  let v118 : BitVec 32 := Scalar.select v116 v117 v102
  let c2_i32_154 : BitVec 32 := 2#32
  let c0_i32_155 : BitVec 32 := 0#32
  let v119 : BitVec 1 := Scalar.cmpi .eq c2_i32_154 c0_i32_155
  let c1_i32_156 : BitVec 32 := 1#32
  let v120 : BitVec 32 := Scalar.select v119 c1_i32_156 c2_i32_154
  let v121 : BitVec 32 := Scalar.remsi arg12 v120
  let c0_i32_158 : BitVec 32 := 0#32
  let v123 : BitVec 1 := Scalar.cmpi .slt v121 c0_i32_158
  let c0_i32_159 : BitVec 32 := 0#32
  let v124 : BitVec 1 := Scalar.cmpi .slt v120 c0_i32_159
  let v125 : BitVec 1 := Scalar.xori v123 v124
  let c0_i32_157 : BitVec 32 := 0#32
  let v122 : BitVec 1 := Scalar.cmpi .ne v121 c0_i32_157
  let v126 : BitVec 1 := Scalar.andi v125 v122
  let v127 : BitVec 32 := Scalar.addi v121 v120
  let v128 : BitVec 32 := Scalar.select v126 v127 v121
  let c512_i32_160 : BitVec 32 := 512#32
  let v129 : BitVec 32 := Scalar.muli v128 c512_i32_160
  let c0_i32_164 : BitVec 32 := 0#32
  ![v118.toNat, v129.toNat, 0]
def k0_cond1 (k0_t1 : Fin k0_t1_loop.trips) : BitVec 1 :=
  let c0_i32_69 : BitVec 32 := 0#32
  let c1_i32_70 : BitVec 32 := 1#32
  let arg12 : BitVec 32 := Scf.iv c0_i32_69 c1_i32_70 k0_t1
  let c10_i32_165 : BitVec 32 := 10#32
  let v135 : BitVec 1 := Scalar.cmpi .sge arg12 c10_i32_165
  let v136 : BitVec 32 := Scalar.extui v135
  let c0_i32_166 : BitVec 32 := 0#32
  let v137 : BitVec 1 := Scalar.cmpi .ne v136 c0_i32_166
  v137

def k0_off4 (k0_t1 : Fin k0_t1_loop.trips) : Fin 1 → Nat :=
  let c0_i32_69 : BitVec 32 := 0#32
  let c1_i32_70 : BitVec 32 := 1#32
  let arg12 : BitVec 32 := Scf.iv c0_i32_69 c1_i32_70 k0_t1
  let c10_i32 : BitVec 32 := 10#32
  let v101 : BitVec 32 := Scalar.remsi arg12 c10_i32
  ![v101.toNat]
def k0_off5 (k0_t1 : Fin k0_t1_loop.trips) : Fin 3 → Nat :=
  let c0_i32_69 : BitVec 32 := 0#32
  let c1_i32_70 : BitVec 32 := 1#32
  let arg12 : BitVec 32 := Scf.iv c0_i32_69 c1_i32_70 k0_t1
  let c10_i32_210 : BitVec 32 := 10#32
  let v222 : BitVec 32 := Scalar.subi arg12 c10_i32_210
  let c0_i32_212 : BitVec 32 := 0#32
  let v224 : BitVec 1 := Scalar.cmpi .sgt v222 c0_i32_212
  let v225 : BitVec 32 := Scalar.extui v224
  let c0_i32_213 : BitVec 32 := 0#32
  let v226 : BitVec 1 := Scalar.cmpi .slt v222 c0_i32_213
  let v227 : BitVec 32 := Scalar.extui v226
  let v228 : BitVec 32 := Scalar.subi v225 v227
  let c2_i32_211 : BitVec 32 := 2#32
  let c0_i32_214 : BitVec 32 := 0#32
  let v229 : BitVec 1 := Scalar.cmpi .sgt c2_i32_211 c0_i32_214
  let v230 : BitVec 32 := Scalar.extui v229
  let c0_i32_215 : BitVec 32 := 0#32
  let v231 : BitVec 1 := Scalar.cmpi .slt c2_i32_211 c0_i32_215
  let v232 : BitVec 32 := Scalar.extui v231
  let v233 : BitVec 32 := Scalar.subi v230 v232
  let v234 : BitVec 1 := Scalar.cmpi .ne v228 v233
  let v235 : BitVec 32 := Scalar.remsi v222 c2_i32_211
  let c0_i32_216 : BitVec 32 := 0#32
  let v236 : BitVec 1 := Scalar.cmpi .ne v235 c0_i32_216
  let v237 : BitVec 1 := Scalar.andi v234 v236
  let v223 : BitVec 32 := Scalar.divsi v222 c2_i32_211
  let c1_i32_217 : BitVec 32 := 1#32
  let v238 : BitVec 32 := Scalar.subi v223 c1_i32_217
  let v239 : BitVec 32 := Scalar.select v237 v238 v223
  let c2_i32_218 : BitVec 32 := 2#32
  let c0_i32_219 : BitVec 32 := 0#32
  let v240 : BitVec 1 := Scalar.cmpi .eq c2_i32_218 c0_i32_219
  let c1_i32_220 : BitVec 32 := 1#32
  let v241 : BitVec 32 := Scalar.select v240 c1_i32_220 c2_i32_218
  let v242 : BitVec 32 := Scalar.remsi v222 v241
  let c0_i32_222 : BitVec 32 := 0#32
  let v244 : BitVec 1 := Scalar.cmpi .slt v242 c0_i32_222
  let c0_i32_223 : BitVec 32 := 0#32
  let v245 : BitVec 1 := Scalar.cmpi .slt v241 c0_i32_223
  let v246 : BitVec 1 := Scalar.xori v244 v245
  let c0_i32_221 : BitVec 32 := 0#32
  let v243 : BitVec 1 := Scalar.cmpi .ne v242 c0_i32_221
  let v247 : BitVec 1 := Scalar.andi v246 v243
  let v248 : BitVec 32 := Scalar.addi v242 v241
  let v249 : BitVec 32 := Scalar.select v247 v248 v242
  let c512_i32_224 : BitVec 32 := 512#32
  let v250 : BitVec 32 := Scalar.muli v249 c512_i32_224
  let c0_i32_225 : BitVec 32 := 0#32
  ![v239.toNat, v250.toNat, 0]
def k0_off6 (k0_t1 : Fin k0_t1_loop.trips) : Fin 4 → Nat :=
  let c0_i32_69 : BitVec 32 := 0#32
  let c1_i32_70 : BitVec 32 := 1#32
  let arg12 : BitVec 32 := Scf.iv c0_i32_69 c1_i32_70 k0_t1
  let c10_i32 : BitVec 32 := 10#32
  let v101 : BitVec 32 := Scalar.remsi arg12 c10_i32
  let c0_i32_226 : BitVec 32 := 0#32
  let c0_i32_227 : BitVec 32 := 0#32
  let c0_i32_228 : BitVec 32 := 0#32
  ![v101.toNat, 0, 0, 0]
def k0_off7 (k0_t1 : Fin k0_t1_loop.trips) : Fin 2 → Nat :=
  let c0_i32_69 : BitVec 32 := 0#32
  let c1_i32_70 : BitVec 32 := 1#32
  let arg12 : BitVec 32 := Scf.iv c0_i32_69 c1_i32_70 k0_t1
  let c0_i32_168 : BitVec 32 := 0#32
  let v139 : BitVec 1 := Scalar.cmpi .sgt arg12 c0_i32_168
  let v140 : BitVec 32 := Scalar.extui v139
  let c0_i32_169 : BitVec 32 := 0#32
  let v141 : BitVec 1 := Scalar.cmpi .slt arg12 c0_i32_169
  let v142 : BitVec 32 := Scalar.extui v141
  let v143 : BitVec 32 := Scalar.subi v140 v142
  let c2_i32_167 : BitVec 32 := 2#32
  let c0_i32_170 : BitVec 32 := 0#32
  let v144 : BitVec 1 := Scalar.cmpi .sgt c2_i32_167 c0_i32_170
  let v145 : BitVec 32 := Scalar.extui v144
  let c0_i32_171 : BitVec 32 := 0#32
  let v146 : BitVec 1 := Scalar.cmpi .slt c2_i32_167 c0_i32_171
  let v147 : BitVec 32 := Scalar.extui v146
  let v148 : BitVec 32 := Scalar.subi v145 v147
  let v149 : BitVec 1 := Scalar.cmpi .ne v143 v148
  let v150 : BitVec 32 := Scalar.remsi arg12 c2_i32_167
  let c0_i32_172 : BitVec 32 := 0#32
  let v151 : BitVec 1 := Scalar.cmpi .ne v150 c0_i32_172
  let v152 : BitVec 1 := Scalar.andi v149 v151
  let v138 : BitVec 32 := Scalar.divsi arg12 c2_i32_167
  let c1_i32_173 : BitVec 32 := 1#32
  let v153 : BitVec 32 := Scalar.subi v138 c1_i32_173
  let v154 : BitVec 32 := Scalar.select v152 v153 v138
  let v166 : Index := Scalar.indexCast v154
  let c2_i32_174 : BitVec 32 := 2#32
  let c0_i32_175 : BitVec 32 := 0#32
  let v155 : BitVec 1 := Scalar.cmpi .eq c2_i32_174 c0_i32_175
  let c1_i32_176 : BitVec 32 := 1#32
  let v156 : BitVec 32 := Scalar.select v155 c1_i32_176 c2_i32_174
  let v157 : BitVec 32 := Scalar.remsi arg12 v156
  let c0_i32_178 : BitVec 32 := 0#32
  let v159 : BitVec 1 := Scalar.cmpi .slt v157 c0_i32_178
  let c0_i32_179 : BitVec 32 := 0#32
  let v160 : BitVec 1 := Scalar.cmpi .slt v156 c0_i32_179
  let v161 : BitVec 1 := Scalar.xori v159 v160
  let c0_i32_177 : BitVec 32 := 0#32
  let v158 : BitVec 1 := Scalar.cmpi .ne v157 c0_i32_177
  let v162 : BitVec 1 := Scalar.andi v161 v158
  let v163 : BitVec 32 := Scalar.addi v157 v156
  let v164 : BitVec 32 := Scalar.select v162 v163 v157
  let c512_i32_180 : BitVec 32 := 512#32
  let v165 : BitVec 32 := Scalar.muli v164 c512_i32_180
  let v167 : Index := Scalar.indexCast v165
  ![v166.toNat, v167.toNat]
def k0_off8 (k0_t1 : Fin k0_t1_loop.trips) : Fin 4 → Nat :=
  let c0_i32_69 : BitVec 32 := 0#32
  let c1_i32_70 : BitVec 32 := 1#32
  let arg12 : BitVec 32 := Scf.iv c0_i32_69 c1_i32_70 k0_t1
  let c10_i32 : BitVec 32 := 10#32
  let v101 : BitVec 32 := Scalar.remsi arg12 c10_i32
  let v173 : Index := Scalar.indexCast v101
  let c0_183 : Index := 0#32
  let c0_184 : Index := 0#32
  let c0_185 : Index := 0#32
  ![v173.toNat, 0, 0, 0]
def k0_cond2 (k0_t1 : Fin k0_t1_loop.trips) : BitVec 1 :=
  let c0_i32_69 : BitVec 32 := 0#32
  let c1_i32_70 : BitVec 32 := 1#32
  let arg12 : BitVec 32 := Scf.iv c0_i32_69 c1_i32_70 k0_t1
  let c10_i32_207 : BitVec 32 := 10#32
  let v218 : BitVec 32 := Scalar.addi arg12 c10_i32_207
  let c154_i32_208 : BitVec 32 := 154#32
  let v219 : BitVec 1 := Scalar.cmpi .slt v218 c154_i32_208
  let v220 : BitVec 32 := Scalar.extui v219
  let c0_i32_209 : BitVec 32 := 0#32
  let v221 : BitVec 1 := Scalar.cmpi .ne v220 c0_i32_209
  v221

def k0_off9 (k0_t1 : Fin k0_t1_loop.trips) : Fin 1 → Nat :=
  let c0_i32_69 : BitVec 32 := 0#32
  let c1_i32_70 : BitVec 32 := 1#32
  let arg12 : BitVec 32 := Scf.iv c0_i32_69 c1_i32_70 k0_t1
  let c10_i32 : BitVec 32 := 10#32
  let v101 : BitVec 32 := Scalar.remsi arg12 c10_i32
  ![v101.toNat]
def k0_off10 (k0_t1 : Fin k0_t1_loop.trips) : Fin 4 → Nat :=
  let c0_i32_69 : BitVec 32 := 0#32
  let c1_i32_70 : BitVec 32 := 1#32
  let arg12 : BitVec 32 := Scf.iv c0_i32_69 c1_i32_70 k0_t1
  let c10_i32 : BitVec 32 := 10#32
  let v101 : BitVec 32 := Scalar.remsi arg12 c10_i32
  let c0_i32_225 : BitVec 32 := 0#32
  let c0_i32_226 : BitVec 32 := 0#32
  let c0_i32_227 : BitVec 32 := 0#32
  ![v101.toNat, 0, 0, 0]
def k0_off11 (k0_t1 : Fin k0_t1_loop.trips) : Fin 3 → Nat :=
  let c0_i32_69 : BitVec 32 := 0#32
  let c1_i32_70 : BitVec 32 := 1#32
  let arg12 : BitVec 32 := Scf.iv c0_i32_69 c1_i32_70 k0_t1
  let c10_i32_210 : BitVec 32 := 10#32
  let v222 : BitVec 32 := Scalar.addi arg12 c10_i32_210
  let c0_i32_212 : BitVec 32 := 0#32
  let v224 : BitVec 1 := Scalar.cmpi .sgt v222 c0_i32_212
  let v225 : BitVec 32 := Scalar.extui v224
  let c0_i32_213 : BitVec 32 := 0#32
  let v226 : BitVec 1 := Scalar.cmpi .slt v222 c0_i32_213
  let v227 : BitVec 32 := Scalar.extui v226
  let v228 : BitVec 32 := Scalar.subi v225 v227
  let c2_i32_211 : BitVec 32 := 2#32
  let c0_i32_214 : BitVec 32 := 0#32
  let v229 : BitVec 1 := Scalar.cmpi .sgt c2_i32_211 c0_i32_214
  let v230 : BitVec 32 := Scalar.extui v229
  let c0_i32_215 : BitVec 32 := 0#32
  let v231 : BitVec 1 := Scalar.cmpi .slt c2_i32_211 c0_i32_215
  let v232 : BitVec 32 := Scalar.extui v231
  let v233 : BitVec 32 := Scalar.subi v230 v232
  let v234 : BitVec 1 := Scalar.cmpi .ne v228 v233
  let v235 : BitVec 32 := Scalar.remsi v222 c2_i32_211
  let c0_i32_216 : BitVec 32 := 0#32
  let v236 : BitVec 1 := Scalar.cmpi .ne v235 c0_i32_216
  let v237 : BitVec 1 := Scalar.andi v234 v236
  let v223 : BitVec 32 := Scalar.divsi v222 c2_i32_211
  let c1_i32_217 : BitVec 32 := 1#32
  let v238 : BitVec 32 := Scalar.subi v223 c1_i32_217
  let v239 : BitVec 32 := Scalar.select v237 v238 v223
  let c2_i32_218 : BitVec 32 := 2#32
  let c0_i32_219 : BitVec 32 := 0#32
  let v240 : BitVec 1 := Scalar.cmpi .eq c2_i32_218 c0_i32_219
  let c1_i32_220 : BitVec 32 := 1#32
  let v241 : BitVec 32 := Scalar.select v240 c1_i32_220 c2_i32_218
  let v242 : BitVec 32 := Scalar.remsi v222 v241
  let c0_i32_222 : BitVec 32 := 0#32
  let v244 : BitVec 1 := Scalar.cmpi .slt v242 c0_i32_222
  let c0_i32_223 : BitVec 32 := 0#32
  let v245 : BitVec 1 := Scalar.cmpi .slt v241 c0_i32_223
  let v246 : BitVec 1 := Scalar.xori v244 v245
  let c0_i32_221 : BitVec 32 := 0#32
  let v243 : BitVec 1 := Scalar.cmpi .ne v242 c0_i32_221
  let v247 : BitVec 1 := Scalar.andi v246 v243
  let v248 : BitVec 32 := Scalar.addi v242 v241
  let v249 : BitVec 32 := Scalar.select v247 v248 v242
  let c512_i32_224 : BitVec 32 := 512#32
  let v250 : BitVec 32 := Scalar.muli v249 c512_i32_224
  let c0_i32_228 : BitVec 32 := 0#32
  ![v239.toNat, v250.toNat, 0]
-- ==== ReferenceIdeal.lean ====
abbrev S1024x77 : Shape := ⟨2, ![1024, 77]⟩
abbrev S1024x77x768 : Shape := ⟨3, ![1024, 77, 768]⟩
abbrev S1x768 : Shape := ⟨2, ![1, 768]⟩
abbrev S_ : Shape := ⟨0, ![]⟩
abbrev S1024x77x1 : Shape := ⟨3, ![1024, 77, 1]⟩
abbrev S768 : Shape := ⟨1, ![768]⟩
abbrev S1x1x768 : Shape := ⟨3, ![1, 1, 768]⟩

abbrev nBuf : Space → Nat
  | .hbm => 12
  | .vmem => 0
  | .smem => 0
  | _ => 0

abbrev bufTy : (tb : Table) → Fin (tcTables nBuf tb) → BufTy
  | .hbm, ⟨0, _⟩ => ⟨S1024x77, .i32⟩
  | .hbm, ⟨1, _⟩ => ⟨S1024x77x768, .f32⟩
  | .hbm, ⟨2, _⟩ => ⟨S1x768, .f32⟩
  | .hbm, ⟨3, _⟩ => ⟨S_, .i32⟩
  | .hbm, ⟨4, _⟩ => ⟨S1024x77, .i32⟩
  | .hbm, ⟨5, _⟩ => ⟨S1024x77, .i1⟩
  | .hbm, ⟨6, _⟩ => ⟨S1024x77x1, .i1⟩
  | .hbm, ⟨7, _⟩ => ⟨S768, .f32⟩
  | .hbm, ⟨8, _⟩ => ⟨S1x1x768, .f32⟩
  | .hbm, ⟨9, _⟩ => ⟨S1024x77x768, .i1⟩
  | .hbm, ⟨10, _⟩ => ⟨S1024x77x768, .f32⟩
  | .hbm, ⟨11, _⟩ => ⟨S1024x77x768, .f32⟩
  | _, _ => ⟨S1024x77, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_v5 : Ref sig .tc := ⟨.hbm, 11, rfl⟩

abbrev nD : Nat := 1
abbrev τ : Topo := Topo.v7x

variable {F : FTy → Type} [FloatOps F]
-- ==== Proof.Names.lean ====
/-
  The names the kernel's proof uses for the pieces its body works on, and the closed forms of the offsets the body computes.

  The kernel streams 154 blocks: block `b` is rows' half `b % 2` of row `b / 2` of the transposed array (512 columns of the
  1024). Block `b` passes through slot `b % 10` of the input ring and of the output ring, each slot with a semaphore of its own.
  The trip count is a literal, so each offset's closed form is decided over the 154 trips.
-/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Tactic

@[expose] public section

noncomputable section

namespace Cert.KernelIdeal.Stream

open Cert.KernelIdeal Cert.KernelIdeal.Gen
open Idealize.ShloMosaic Idealize.ShloMosaic.TcCoe Idealize.ShloMosaic.Tactic

/-! ## The buffers -/

/-- The token rows in HBM, transposed. -/
abbrev tokH : Memref sig .tc .hbm S77x1024 .i32 := Memref.whole main_call0_v1
/-- The embedded text in HBM, transposed. -/
abbrev embH : Memref sig .tc .hbm S77x1024x768 .f32 := Memref.whole main_call0_v0
/-- The placeholder's row in HBM. -/
abbrev phH : Memref sig .tc .hbm S1x1x768 .f32 := Memref.whole main_call0_v2
/-- The result in HBM, transposed. -/
abbrev resH : Memref sig .tc .hbm S77x1024x768 .f32 := Memref.whole main_call0_v3
/-- The token rows in VMEM. -/
abbrev tokV : Memref sig .tc .vmem S77x1024 .i32 := Memref.whole cc0_scratch0
/-- The placeholder's row in VMEM. -/
abbrev phV : Memref sig .tc .vmem S1x1x768 .f32 := Memref.whole cc0_scratch1
/-- The input ring. -/
abbrev ringI : Memref sig .tc .vmem S10x1x512x768 .f32 := Memref.whole cc0_scratch2
/-- The output ring. -/
abbrev ringO : Memref sig .tc .vmem S10x1x512x768 .f32 := Memref.whole cc0_scratch3

/-! ## Blocks, slots, semaphores -/

/-- Where block `b` starts: row `b / 2`, column 0 or 512. -/
abbrev blkOff (b : Fin 154) : Fin 3 → Nat := ![b.val / 2, b.val % 2 * 512, 0]
/-- Block `b` lies inside the array. -/
theorem blkOff_inb (b : Fin 154) : ∀ a, blkOff b a + S1x512x768.size a ≤ S77x1024x768.size a := by
  have := b.isLt; intro a; fin_cases a
  · show b.val / 2 + 1 ≤ 77; omega
  · show b.val % 2 * 512 + 512 ≤ 1024; omega
  · show 0 + 768 ≤ 768; omega
/-- Where slot `s` of a ring starts. -/
abbrev slotOff (s : Fin 10) : Fin 4 → Nat := ![s.val, 0, 0, 0]
/-- Slot `s` lies inside its ring. -/
theorem slotOff_inb (s : Fin 10) : ∀ a, slotOff s a + S1x1x512x768.size a ≤ S10x1x512x768.size a := by
  have := s.isLt; intro a; fin_cases a
  · show s.val + 1 ≤ 10; omega
  · show 0 + 1 ≤ 1; omega
  · show 0 + 512 ≤ 512; omega
  · show 0 + 768 ≤ 768; omega
/-- Which semaphore of a row of ten serves slot `s`. -/
abbrev semOff (s : Fin 10) : Fin 1 → Nat := ![s.val]
/-- It is one of the ten. -/
theorem semOff_inb (s : Fin 10) : ∀ a, semOff s a + S1.size a ≤ S10.size a := by
  have := s.isLt; intro a; fin_cases a; show s.val + 1 ≤ 10; omega

/-- Block `b` of the embedded text. -/
def blkE (b : Fin 154) : Memref sig .tc .hbm S1x512x768 .f32 :=
  embH.slice (Rect.unit (s := S77x1024x768) (blkOff b) S1x512x768.size (blkOff_inb b)) (fun _ => rfl)
/-- Block `b` of the result. -/
def blkR (b : Fin 154) : Memref sig .tc .hbm S1x512x768 .f32 :=
  resH.slice (Rect.unit (s := S77x1024x768) (blkOff b) S1x512x768.size (blkOff_inb b)) (fun _ => rfl)
/-- Slot `s` of the input ring, as the transfers see it. -/
def slI (s : Fin 10) : Memref sig .tc .vmem S1x512x768 .f32 :=
  (ringI.slice (Rect.unit (s := S10x1x512x768) (slotOff s) S1x1x512x768.size (slotOff_inb s)) (fun _ => rfl)).squeeze S1x512x768 squeezes_S1x1x512x768_S1x512x768
/-- Slot `s` of the output ring, as the transfers see it. -/
def slO (s : Fin 10) : Memref sig .tc .vmem S1x512x768 .f32 :=
  (ringO.slice (Rect.unit (s := S10x1x512x768) (slotOff s) S1x1x512x768.size (slotOff_inb s)) (fun _ => rfl)).squeeze S1x512x768 squeezes_S1x1x512x768_S1x512x768
/-- The semaphore of slot `s` of the input ring. -/
def smI (s : Fin 10) : DmaSems sig S_ := (cc0_scratch6.slice (Rect.unit (s := S10) (semOff s) S1.size (semOff_inb s))).squeeze S_ squeezes_S1_S_
/-- The semaphore of slot `s` of the output ring. -/
def smO (s : Fin 10) : DmaSems sig S_ := (cc0_scratch7.slice (Rect.unit (s := S10) (semOff s) S1.size (semOff_inb s))).squeeze S_ squeezes_S1_S_

instance (s : Fin 10) : ClosedOff (slotOff s) := ⟨slotOff s, rfl⟩
instance (b : Fin 154) : ClosedOff (blkOff b) := ⟨blkOff b, rfl⟩

/-! ## The offsets of a trip, in closed form -/

/-- The loop runs 154 trips. -/
theorem trips_eq : k0_t1_loop.trips = 154 := by decide +kernel

/-- A trip's number is below 154. -/
theorem trip_lt (k : Fin k0_t1_loop.trips) : k.val < 154 := Nat.lt_of_lt_of_eq k.isLt trips_eq

/-- Trip `k` works on semaphore `k % 10`. -/
theorem off1_eq : ∀ k : Fin k0_t1_loop.trips, k0_off1 k = semOff (Ring.sl 10 k.val) := by decide +kernel
/-- Trip `k` works on slot `k % 10`. -/
theorem off2_eq : ∀ k : Fin k0_t1_loop.trips, k0_off2 k = slotOff (Ring.sl 10 k.val) := by decide +kernel
/-- Trip `k` works on block `k`. -/
theorem off3_eq : ∀ k : Fin k0_t1_loop.trips, k0_off3 k = blkOff (Ring.bk 154 k.val) := by decide +kernel
/-- The result wait of trip `k` is on semaphore `k % 10`. -/
theorem off4_eq : ∀ k : Fin k0_t1_loop.trips, k0_off4 k = semOff (Ring.sl 10 k.val) := by decide +kernel
/-- The result wait of trip `k` is for block `k - 10`, once there is one. -/
theorem off5_eq : ∀ k : Fin k0_t1_loop.trips, 10 ≤ k.val → k0_off5 k = blkOff (Ring.bk 154 (k.val - 10)) := by decide +kernel
/-- The result wait of trip `k` is on slot `k % 10`. -/
theorem off6_eq : ∀ k : Fin k0_t1_loop.trips, k0_off6 k = slotOff (Ring.sl 10 k.val) := by decide +kernel
/-- Trip `k` reads the tokens of block `k`. -/
theorem off7_eq : ∀ k : Fin k0_t1_loop.trips, k0_off7 k = ![k.val / 2, k.val % 2 * 512] := by decide +kernel
/-- Trip `k` loads from and stores to slot `k % 10`. -/
theorem off8_eq : ∀ k : Fin k0_t1_loop.trips, k0_off8 k = slotOff (Ring.sl 10 k.val) := by decide +kernel
/-- The next fetch of trip `k` is on semaphore `k % 10`. -/
theorem off9_eq : ∀ k : Fin k0_t1_loop.trips, k0_off9 k = semOff (Ring.sl 10 k.val) := by decide +kernel
/-- The next fetch of trip `k` is into slot `k % 10`. -/
theorem off10_eq : ∀ k : Fin k0_t1_loop.trips, k0_off10 k = slotOff (Ring.sl 10 k.val) := by decide +kernel
/-- The next fetch of trip `k` is of block `k + 10`, while there is one. -/
theorem off11_eq : ∀ k : Fin k0_t1_loop.trips, k.val + 10 < 154 → k0_off11 k = blkOff (Ring.bk 154 (k.val + 10)) := by decide +kernel
/-- The result wait happens from trip 10 on. -/
theorem cond1_iff : ∀ k : Fin k0_t1_loop.trips, k0_cond1 k = 1#1 ↔ 10 ≤ k.val := by decide +kernel
/-- The next fetch happens while there is a block left. -/
theorem cond2_iff : ∀ k : Fin k0_t1_loop.trips, k0_cond2 k = 1#1 ↔ k.val + 10 < 154 := by decide +kernel

instance (k : Fin k0_t1_loop.trips) : ClosedOff (k0_off8 k) := ⟨slotOff (Ring.sl 10 k.val), off8_eq k⟩
instance (k : Fin k0_t1_loop.trips) : ClosedOff (k0_off2 k) := ⟨slotOff (Ring.sl 10 k.val), off2_eq k⟩

end Cert.KernelIdeal.Stream

end
-- ==== Proof.Canon.lean ====
/-
  The body's slices under their names: each slice the kernel takes is block `b`, slot `s` or semaphore `s` of Names.lean. The
  run rewrites by these equations, so its resources are stated over the names alone.
-/
module

public import proofs.«01_k».proof.Proof.Names

@[expose] public section

noncomputable section

namespace Cert.KernelIdeal.Stream

open Cert.KernelIdeal Cert.KernelIdeal.Gen
open Idealize.ShloMosaic Idealize.ShloMosaic.TcCoe Idealize.ShloMosaic.Tactic

/-! ## A slice at an offset equal to a name's is that name -/

theorem blkE_congr {off : Fin 3 → Nat} {b : Fin 154} (e : off = blkOff b) (hh hs) :
    embH.slice (Rect.unit (s := S77x1024x768) off S1x512x768.size hh) hs = blkE b := Memref.slice_unit_congr _ e _ (blkOff_inb b) _ (fun _ => rfl)
theorem blkR_congr {off : Fin 3 → Nat} {b : Fin 154} (e : off = blkOff b) (hh hs) :
    resH.slice (Rect.unit (s := S77x1024x768) off S1x512x768.size hh) hs = blkR b := Memref.slice_unit_congr _ e _ (blkOff_inb b) _ (fun _ => rfl)
theorem slI_congr {off : Fin 4 → Nat} {s : Fin 10} (e : off = slotOff s) (hh hs) :
    (ringI.slice (Rect.unit (s := S10x1x512x768) off S1x1x512x768.size hh) hs).squeeze S1x512x768 squeezes_S1x1x512x768_S1x512x768 = slI s :=
  congrArg (fun M : Memref sig .tc .vmem S1x1x512x768 .f32 => M.squeeze S1x512x768 squeezes_S1x1x512x768_S1x512x768) (Memref.slice_unit_congr _ e _ _ _ _)
theorem slO_congr {off : Fin 4 → Nat} {s : Fin 10} (e : off = slotOff s) (hh hs) :
    (ringO.slice (Rect.unit (s := S10x1x512x768) off S1x1x512x768.size hh) hs).squeeze S1x512x768 squeezes_S1x1x512x768_S1x512x768 = slO s :=
  congrArg (fun M : Memref sig .tc .vmem S1x1x512x768 .f32 => M.squeeze S1x512x768 squeezes_S1x1x512x768_S1x512x768) (Memref.slice_unit_congr _ e _ _ _ _)
theorem smI_congr {off : Fin 1 → Nat} {s : Fin 10} (e : off = semOff s) (hh) :
    (cc0_scratch6.slice (Rect.unit (s := S10) off S1.size hh)).squeeze S_ squeezes_S1_S_ = smI s :=
  congrArg (fun A : DmaSems sig S1 => A.squeeze S_ squeezes_S1_S_) (SemArray.slice_unit_congr _ e _ _)
theorem smO_congr {off : Fin 1 → Nat} {s : Fin 10} (e : off = semOff s) (hh) :
    (cc0_scratch7.slice (Rect.unit (s := S10) off S1.size hh)).squeeze S_ squeezes_S1_S_ = smO s :=
  congrArg (fun A : DmaSems sig S1 => A.squeeze S_ squeezes_S1_S_) (SemArray.slice_unit_congr _ e _ _)

/-! ## A trip's slices -/

section Trip
variable (k : Fin k0_t1_loop.trips)

@[sl_canon] theorem smI_trip (hh) :
    (cc0_scratch6.slice (Rect.unit (s := S10) (k0_off1 k) S1.size hh)).squeeze S_ squeezes_S1_S_ = smI (Ring.sl 10 k.val) := smI_congr (off1_eq k) _
@[sl_canon] theorem smO_trip (hh) :
    (cc0_scratch7.slice (Rect.unit (s := S10) (k0_off1 k) S1.size hh)).squeeze S_ squeezes_S1_S_ = smO (Ring.sl 10 k.val) := smO_congr (off1_eq k) _
@[sl_canon] theorem smO_back (hh) :
    (cc0_scratch7.slice (Rect.unit (s := S10) (k0_off4 k) S1.size hh)).squeeze S_ squeezes_S1_S_ = smO (Ring.sl 10 k.val) := smO_congr (off4_eq k) _
@[sl_canon] theorem smI_next (hh) :
    (cc0_scratch6.slice (Rect.unit (s := S10) (k0_off9 k) S1.size hh)).squeeze S_ squeezes_S1_S_ = smI (Ring.sl 10 k.val) := smI_congr (off9_eq k) _
@[sl_canon] theorem slI_trip (hh hs) :
    (ringI.slice (Rect.unit (s := S10x1x512x768) (k0_off2 k) S1x1x512x768.size hh) hs).squeeze S1x512x768 squeezes_S1x1x512x768_S1x512x768 = slI (Ring.sl 10 k.val) := slI_congr (off2_eq k) _ _
@[sl_canon] theorem slO_trip (hh hs) :
    (ringO.slice (Rect.unit (s := S10x1x512x768) (k0_off2 k) S1x1x512x768.size hh) hs).squeeze S1x512x768 squeezes_S1x1x512x768_S1x512x768 = slO (Ring.sl 10 k.val) := slO_congr (off2_eq k) _ _
@[sl_canon] theorem slO_back (hh hs) :
    (ringO.slice (Rect.unit (s := S10x1x512x768) (k0_off6 k) S1x1x512x768.size hh) hs).squeeze S1x512x768 squeezes_S1x1x512x768_S1x512x768 = slO (Ring.sl 10 k.val) := slO_congr (off6_eq k) _ _
@[sl_canon] theorem slI_next (hh hs) :
    (ringI.slice (Rect.unit (s := S10x1x512x768) (k0_off10 k) S1x1x512x768.size hh) hs).squeeze S1x512x768 squeezes_S1x1x512x768_S1x512x768 = slI (Ring.sl 10 k.val) := slI_congr (off10_eq k) _ _
@[sl_canon] theorem blkE_trip (hh hs) :
    embH.slice (Rect.unit (s := S77x1024x768) (k0_off3 k) S1x512x768.size hh) hs = blkE (Ring.bk 154 k.val) := blkE_congr (off3_eq k) _ _
@[sl_canon] theorem blkR_trip (hh hs) :
    resH.slice (Rect.unit (s := S77x1024x768) (k0_off3 k) S1x512x768.size hh) hs = blkR (Ring.bk 154 k.val) := blkR_congr (off3_eq k) _ _
@[sl_canon] theorem blkR_back (hk : 10 ≤ k.val) (hh hs) :
    resH.slice (Rect.unit (s := S77x1024x768) (k0_off5 k) S1x512x768.size hh) hs = blkR (Ring.bk 154 (k.val - 10)) := blkR_congr (off5_eq k hk) _ _
@[sl_canon] theorem blkE_next (hk : k.val + 10 < 154) (hh hs) :
    embH.slice (Rect.unit (s := S77x1024x768) (k0_off11 k) S1x512x768.size hh) hs = blkE (Ring.bk 154 (k.val + 10)) := blkE_congr (off11_eq k hk) _ _

end Trip

/-! ## The prologue's and the epilogue's slices -/

@[sl_canon] theorem blkE0 (hh hs) : embH.slice (Rect.unit (s := S77x1024x768) ![0, 0, 0] S1x512x768.size hh) hs = blkE 0 := blkE_congr (by decide) _ _
@[sl_canon] theorem blkE1 (hh hs) : embH.slice (Rect.unit (s := S77x1024x768) ![0, 512, 0] S1x512x768.size hh) hs = blkE 1 := blkE_congr (by decide) _ _
@[sl_canon] theorem blkE2 (hh hs) : embH.slice (Rect.unit (s := S77x1024x768) ![1, 0, 0] S1x512x768.size hh) hs = blkE 2 := blkE_congr (by decide) _ _
@[sl_canon] theorem blkE3 (hh hs) : embH.slice (Rect.unit (s := S77x1024x768) ![1, 512, 0] S1x512x768.size hh) hs = blkE 3 := blkE_congr (by decide) _ _
@[sl_canon] theorem blkE4 (hh hs) : embH.slice (Rect.unit (s := S77x1024x768) ![2, 0, 0] S1x512x768.size hh) hs = blkE 4 := blkE_congr (by decide) _ _
@[sl_canon] theorem blkE5 (hh hs) : embH.slice (Rect.unit (s := S77x1024x768) ![2, 512, 0] S1x512x768.size hh) hs = blkE 5 := blkE_congr (by decide) _ _
@[sl_canon] theorem blkE6 (hh hs) : embH.slice (Rect.unit (s := S77x1024x768) ![3, 0, 0] S1x512x768.size hh) hs = blkE 6 := blkE_congr (by decide) _ _
@[sl_canon] theorem blkE7 (hh hs) : embH.slice (Rect.unit (s := S77x1024x768) ![3, 512, 0] S1x512x768.size hh) hs = blkE 7 := blkE_congr (by decide) _ _
@[sl_canon] theorem blkE8 (hh hs) : embH.slice (Rect.unit (s := S77x1024x768) ![4, 0, 0] S1x512x768.size hh) hs = blkE 8 := blkE_congr (by decide) _ _
@[sl_canon] theorem blkE9 (hh hs) : embH.slice (Rect.unit (s := S77x1024x768) ![4, 512, 0] S1x512x768.size hh) hs = blkE 9 := blkE_congr (by decide) _ _
@[sl_canon] theorem blkR144 (hh hs) : resH.slice (Rect.unit (s := S77x1024x768) ![72, 0, 0] S1x512x768.size hh) hs = blkR 144 := blkR_congr (by decide) _ _
@[sl_canon] theorem blkR145 (hh hs) : resH.slice (Rect.unit (s := S77x1024x768) ![72, 512, 0] S1x512x768.size hh) hs = blkR 145 := blkR_congr (by decide) _ _
@[sl_canon] theorem blkR146 (hh hs) : resH.slice (Rect.unit (s := S77x1024x768) ![73, 0, 0] S1x512x768.size hh) hs = blkR 146 := blkR_congr (by decide) _ _
@[sl_canon] theorem blkR147 (hh hs) : resH.slice (Rect.unit (s := S77x1024x768) ![73, 512, 0] S1x512x768.size hh) hs = blkR 147 := blkR_congr (by decide) _ _
@[sl_canon] theorem blkR148 (hh hs) : resH.slice (Rect.unit (s := S77x1024x768) ![74, 0, 0] S1x512x768.size hh) hs = blkR 148 := blkR_congr (by decide) _ _
@[sl_canon] theorem blkR149 (hh hs) : resH.slice (Rect.unit (s := S77x1024x768) ![74, 512, 0] S1x512x768.size hh) hs = blkR 149 := blkR_congr (by decide) _ _
@[sl_canon] theorem blkR150 (hh hs) : resH.slice (Rect.unit (s := S77x1024x768) ![75, 0, 0] S1x512x768.size hh) hs = blkR 150 := blkR_congr (by decide) _ _
@[sl_canon] theorem blkR151 (hh hs) : resH.slice (Rect.unit (s := S77x1024x768) ![75, 512, 0] S1x512x768.size hh) hs = blkR 151 := blkR_congr (by decide) _ _
@[sl_canon] theorem blkR152 (hh hs) : resH.slice (Rect.unit (s := S77x1024x768) ![76, 0, 0] S1x512x768.size hh) hs = blkR 152 := blkR_congr (by decide) _ _
@[sl_canon] theorem blkR153 (hh hs) : resH.slice (Rect.unit (s := S77x1024x768) ![76, 512, 0] S1x512x768.size hh) hs = blkR 153 := blkR_congr (by decide) _ _
@[sl_canon] theorem slI0 (hh hs) : (ringI.slice (Rect.unit (s := S10x1x512x768) ![0, 0, 0, 0] S1x1x512x768.size hh) hs).squeeze S1x512x768 squeezes_S1x1x512x768_S1x512x768 = slI 0 := slI_congr (by decide) _ _
@[sl_canon] theorem slO0 (hh hs) : (ringO.slice (Rect.unit (s := S10x1x512x768) ![0, 0, 0, 0] S1x1x512x768.size hh) hs).squeeze S1x512x768 squeezes_S1x1x512x768_S1x512x768 = slO 0 := slO_congr (by decide) _ _
@[sl_canon] theorem smI0 (hh) : (cc0_scratch6.slice (Rect.unit (s := S10) ![0] S1.size hh)).squeeze S_ squeezes_S1_S_ = smI 0 := smI_congr (by decide) _
@[sl_canon] theorem smO0 (hh) : (cc0_scratch7.slice (Rect.unit (s := S10) ![0] S1.size hh)).squeeze S_ squeezes_S1_S_ = smO 0 := smO_congr (by decide) _
@[sl_canon] theorem slI1 (hh hs) : (ringI.slice (Rect.unit (s := S10x1x512x768) ![1, 0, 0, 0] S1x1x512x768.size hh) hs).squeeze S1x512x768 squeezes_S1x1x512x768_S1x512x768 = slI 1 := slI_congr (by decide) _ _
@[sl_canon] theorem slO1 (hh hs) : (ringO.slice (Rect.unit (s := S10x1x512x768) ![1, 0, 0, 0] S1x1x512x768.size hh) hs).squeeze S1x512x768 squeezes_S1x1x512x768_S1x512x768 = slO 1 := slO_congr (by decide) _ _
@[sl_canon] theorem smI1 (hh) : (cc0_scratch6.slice (Rect.unit (s := S10) ![1] S1.size hh)).squeeze S_ squeezes_S1_S_ = smI 1 := smI_congr (by decide) _
@[sl_canon] theorem smO1 (hh) : (cc0_scratch7.slice (Rect.unit (s := S10) ![1] S1.size hh)).squeeze S_ squeezes_S1_S_ = smO 1 := smO_congr (by decide) _
@[sl_canon] theorem slI2 (hh hs) : (ringI.slice (Rect.unit (s := S10x1x512x768) ![2, 0, 0, 0] S1x1x512x768.size hh) hs).squeeze S1x512x768 squeezes_S1x1x512x768_S1x512x768 = slI 2 := slI_congr (by decide) _ _
@[sl_canon] theorem slO2 (hh hs) : (ringO.slice (Rect.unit (s := S10x1x512x768) ![2, 0, 0, 0] S1x1x512x768.size hh) hs).squeeze S1x512x768 squeezes_S1x1x512x768_S1x512x768 = slO 2 := slO_congr (by decide) _ _
@[sl_canon] theorem smI2 (hh) : (cc0_scratch6.slice (Rect.unit (s := S10) ![2] S1.size hh)).squeeze S_ squeezes_S1_S_ = smI 2 := smI_congr (by decide) _
@[sl_canon] theorem smO2 (hh) : (cc0_scratch7.slice (Rect.unit (s := S10) ![2] S1.size hh)).squeeze S_ squeezes_S1_S_ = smO 2 := smO_congr (by decide) _
@[sl_canon] theorem slI3 (hh hs) : (ringI.slice (Rect.unit (s := S10x1x512x768) ![3, 0, 0, 0] S1x1x512x768.size hh) hs).squeeze S1x512x768 squeezes_S1x1x512x768_S1x512x768 = slI 3 := slI_congr (by decide) _ _
@[sl_canon] theorem slO3 (hh hs) : (ringO.slice (Rect.unit (s := S10x1x512x768) ![3, 0, 0, 0] S1x1x512x768.size hh) hs).squeeze S1x512x768 squeezes_S1x1x512x768_S1x512x768 = slO 3 := slO_congr (by decide) _ _
@[sl_canon] theorem smI3 (hh) : (cc0_scratch6.slice (Rect.unit (s := S10) ![3] S1.size hh)).squeeze S_ squeezes_S1_S_ = smI 3 := smI_congr (by decide) _
@[sl_canon] theorem smO3 (hh) : (cc0_scratch7.slice (Rect.unit (s := S10) ![3] S1.size hh)).squeeze S_ squeezes_S1_S_ = smO 3 := smO_congr (by decide) _
@[sl_canon] theorem slI4 (hh hs) : (ringI.slice (Rect.unit (s := S10x1x512x768) ![4, 0, 0, 0] S1x1x512x768.size hh) hs).squeeze S1x512x768 squeezes_S1x1x512x768_S1x512x768 = slI 4 := slI_congr (by decide) _ _
@[sl_canon] theorem slO4 (hh hs) : (ringO.slice (Rect.unit (s := S10x1x512x768) ![4, 0, 0, 0] S1x1x512x768.size hh) hs).squeeze S1x512x768 squeezes_S1x1x512x768_S1x512x768 = slO 4 := slO_congr (by decide) _ _
@[sl_canon] theorem smI4 (hh) : (cc0_scratch6.slice (Rect.unit (s := S10) ![4] S1.size hh)).squeeze S_ squeezes_S1_S_ = smI 4 := smI_congr (by decide) _
@[sl_canon] theorem smO4 (hh) : (cc0_scratch7.slice (Rect.unit (s := S10) ![4] S1.size hh)).squeeze S_ squeezes_S1_S_ = smO 4 := smO_congr (by decide) _
@[sl_canon] theorem slI5 (hh hs) : (ringI.slice (Rect.unit (s := S10x1x512x768) ![5, 0, 0, 0] S1x1x512x768.size hh) hs).squeeze S1x512x768 squeezes_S1x1x512x768_S1x512x768 = slI 5 := slI_congr (by decide) _ _
@[sl_canon] theorem slO5 (hh hs) : (ringO.slice (Rect.unit (s := S10x1x512x768) ![5, 0, 0, 0] S1x1x512x768.size hh) hs).squeeze S1x512x768 squeezes_S1x1x512x768_S1x512x768 = slO 5 := slO_congr (by decide) _ _
@[sl_canon] theorem smI5 (hh) : (cc0_scratch6.slice (Rect.unit (s := S10) ![5] S1.size hh)).squeeze S_ squeezes_S1_S_ = smI 5 := smI_congr (by decide) _
@[sl_canon] theorem smO5 (hh) : (cc0_scratch7.slice (Rect.unit (s := S10) ![5] S1.size hh)).squeeze S_ squeezes_S1_S_ = smO 5 := smO_congr (by decide) _
@[sl_canon] theorem slI6 (hh hs) : (ringI.slice (Rect.unit (s := S10x1x512x768) ![6, 0, 0, 0] S1x1x512x768.size hh) hs).squeeze S1x512x768 squeezes_S1x1x512x768_S1x512x768 = slI 6 := slI_congr (by decide) _ _
@[sl_canon] theorem slO6 (hh hs) : (ringO.slice (Rect.unit (s := S10x1x512x768) ![6, 0, 0, 0] S1x1x512x768.size hh) hs).squeeze S1x512x768 squeezes_S1x1x512x768_S1x512x768 = slO 6 := slO_congr (by decide) _ _
@[sl_canon] theorem smI6 (hh) : (cc0_scratch6.slice (Rect.unit (s := S10) ![6] S1.size hh)).squeeze S_ squeezes_S1_S_ = smI 6 := smI_congr (by decide) _
@[sl_canon] theorem smO6 (hh) : (cc0_scratch7.slice (Rect.unit (s := S10) ![6] S1.size hh)).squeeze S_ squeezes_S1_S_ = smO 6 := smO_congr (by decide) _
@[sl_canon] theorem slI7 (hh hs) : (ringI.slice (Rect.unit (s := S10x1x512x768) ![7, 0, 0, 0] S1x1x512x768.size hh) hs).squeeze S1x512x768 squeezes_S1x1x512x768_S1x512x768 = slI 7 := slI_congr (by decide) _ _
@[sl_canon] theorem slO7 (hh hs) : (ringO.slice (Rect.unit (s := S10x1x512x768) ![7, 0, 0, 0] S1x1x512x768.size hh) hs).squeeze S1x512x768 squeezes_S1x1x512x768_S1x512x768 = slO 7 := slO_congr (by decide) _ _
@[sl_canon] theorem smI7 (hh) : (cc0_scratch6.slice (Rect.unit (s := S10) ![7] S1.size hh)).squeeze S_ squeezes_S1_S_ = smI 7 := smI_congr (by decide) _
@[sl_canon] theorem smO7 (hh) : (cc0_scratch7.slice (Rect.unit (s := S10) ![7] S1.size hh)).squeeze S_ squeezes_S1_S_ = smO 7 := smO_congr (by decide) _
@[sl_canon] theorem slI8 (hh hs) : (ringI.slice (Rect.unit (s := S10x1x512x768) ![8, 0, 0, 0] S1x1x512x768.size hh) hs).squeeze S1x512x768 squeezes_S1x1x512x768_S1x512x768 = slI 8 := slI_congr (by decide) _ _
@[sl_canon] theorem slO8 (hh hs) : (ringO.slice (Rect.unit (s := S10x1x512x768) ![8, 0, 0, 0] S1x1x512x768.size hh) hs).squeeze S1x512x768 squeezes_S1x1x512x768_S1x512x768 = slO 8 := slO_congr (by decide) _ _
@[sl_canon] theorem smI8 (hh) : (cc0_scratch6.slice (Rect.unit (s := S10) ![8] S1.size hh)).squeeze S_ squeezes_S1_S_ = smI 8 := smI_congr (by decide) _
@[sl_canon] theorem smO8 (hh) : (cc0_scratch7.slice (Rect.unit (s := S10) ![8] S1.size hh)).squeeze S_ squeezes_S1_S_ = smO 8 := smO_congr (by decide) _
@[sl_canon] theorem slI9 (hh hs) : (ringI.slice (Rect.unit (s := S10x1x512x768) ![9, 0, 0, 0] S1x1x512x768.size hh) hs).squeeze S1x512x768 squeezes_S1x1x512x768_S1x512x768 = slI 9 := slI_congr (by decide) _ _
@[sl_canon] theorem slO9 (hh hs) : (ringO.slice (Rect.unit (s := S10x1x512x768) ![9, 0, 0, 0] S1x1x512x768.size hh) hs).squeeze S1x512x768 squeezes_S1x1x512x768_S1x512x768 = slO 9 := slO_congr (by decide) _ _
@[sl_canon] theorem smI9 (hh) : (cc0_scratch6.slice (Rect.unit (s := S10) ![9] S1.size hh)).squeeze S_ squeezes_S1_S_ = smI 9 := smI_congr (by decide) _
@[sl_canon] theorem smO9 (hh) : (cc0_scratch7.slice (Rect.unit (s := S10) ![9] S1.size hh)).squeeze S_ squeezes_S1_S_ = smO 9 := smO_congr (by decide) _

end Cert.KernelIdeal.Stream

end
-- ==== Proof.Pieces.lean ====
/-
  The resources a trip of the kernel's loop touches: blocks of the embedded text and of the result in HBM, slots of the two
  rings, the slots' semaphores, and the transfers in flight between them.
-/
module

public import proofs.«01_k».proof.Proof.Canon
public import Idealize.ShloMosaic.Lib.Pipeline.FrameSuffixV
public import Idealize.ShloMosaic.Lib.Exec

@[expose] public section

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the pipeline library's beside the counters the kernel's own transfers ride on. -/
local notation "𝕄" => MT nD τ sig Unit (Elt F) ℕ (Pipeline.UD sig nD τ) ℕ
/-- No loop of unbounded length. -/
abbrev 𝒱₀ : Variants := Variants.none

section
variable (c : Dev nD)
variable (XE : Buf (Elt F) (embH.view.loc (c : Thread nD τ)))

/-- What an HBM block of the embedded text holds, as a whole-block payload. -/
abbrev blockIn (b : Fin 154) : S1x512x768.Idx → Elt F .f32 := ReadAs.same.apply ((blkE b).view.read (Elt F) XE)

/-- The input semaphore of slot `s` at zero. -/
abbrev cellI (s : Fin 10) : sProp 𝕄 := semVal ((c : Thread nD τ), SemLoc.dma (smI s).sem) 0
/-- The output semaphore of slot `s` at zero. -/
abbrev cellO (s : Fin 10) : sProp 𝕄 := semVal ((c : Thread nD τ), SemLoc.dma (smO s).sem) 0
/-- Slot `s` of the input ring, holding `f`. -/
abbrev heldI (s : Fin 10) (f : Buf (Elt F) ((slI s).view.loc (c : Thread nD τ))) : sProp 𝕄 :=
  (slI s).view.loc (c : Thread nD τ) ↦[(slI s).view.set]{fullShare} f
/-- Slot `s` of the output ring, holding `f`. -/
abbrev heldO (s : Fin 10) (f : Buf (Elt F) ((slO s).view.loc (c : Thread nD τ))) : sProp 𝕄 :=
  (slO s).view.loc (c : Thread nD τ) ↦[(slO s).view.set]{fullShare} f
/-- Block `b` of the embedded text, at rest. -/
abbrev homeE (b : Fin 154) : sProp 𝕄 := (blkE b).view.loc (c : Thread nD τ) ↦[(blkE b).view.set]{fullShare} XE
/-- Block `b` of the result, holding `f`. -/
abbrev heldR (b : Fin 154) (f : Buf (Elt F) (resH.view.loc (c : Thread nD τ))) : sProp 𝕄 :=
  (blkR b).view.loc (c : Thread nD τ) ↦[(blkR b).view.set]{fullShare} f

/-- Block `b` on its way into slot `s`. -/
abbrev flI (s : Fin 10) (b : Fin 154) (f : Buf (Elt F) ((slI s).view.loc (c : Thread nD τ))) : sProp 𝕄 :=
  Transfers.Flight countersEmb (c : Thread nD τ) (SemLoc.dma (smI s).sem) () 49152
    iprop(heldI c s ((slI s).view.writes (Elt F) f [⟨Rect.whole S1x512x768, blockIn c XE b⟩]) ∗ homeE c XE b)
/-- Slot `s`, holding `g`, on its way to block `b` of the result. -/
abbrev flO (s : Fin 10) (b : Fin 154) (g : Buf (Elt F) ((slO s).view.loc (c : Thread nD τ)))
    (XR : Buf (Elt F) (resH.view.loc (c : Thread nD τ))) : sProp 𝕄 :=
  Transfers.Flight countersEmb (c : Thread nD τ) (SemLoc.dma (smO s).sem) () 49152
    iprop(heldR c b ((blkR b).view.writes (Elt F) XR [⟨Rect.whole S1x512x768, ReadAs.same.apply ((slO s).view.read (Elt F) g)⟩]) ∗ heldO c s g)

end

/-- The trip's program, over the HBM buffers `t` of the tokens and `q` of the placeholder's row and the VMEM buffers `a` and `p`
    they are copied to. -/
abbrev trip (t : Memref sig .tc .hbm S77x1024 .i32) (ht : t.IsWhole) (q : Memref sig .tc .hbm S1x1x768 .f32) (hq : q.IsWhole)
    (a : Memref sig .tc .vmem S77x1024 .i32) (ha : a.IsWhole) (p : Memref sig .tc .vmem S1x1x768 .f32) (hp : p.IsWhole)
    (k : Fin k0_t1_loop.trips) : Prog (TpuEff nD τ sig (Elt F) Λ₀ .tc) Unit :=
  k0_t1_body (F := F) t ht embH (Memref.isWhole_whole _) q hq resH (Memref.isWhole_whole _)
    a ha p hp ringI (Memref.isWhole_whole _) ringO (Memref.isWhole_whole _)
    cc0_scratch4 cc0_scratch5 cc0_scratch6 cc0_scratch7 k ()

end Cert.KernelIdeal.Stream
-- ==== Proof.Tile.lean ====
/-
  What a trip writes. The kernel's result, element by element: the placeholder's row where the token is 500, the embedded text
  elsewhere. A trip computes exactly that on its block: the elements the trip leaves in its output slot are the result's at the
  block.
-/
module

public import proofs.«01_k».proof.Proof.Pieces
public import Idealize.ShloMosaic.Lib.Pipeline.Value
public import Idealize.ShloMosaic.Lib.ViewIndex

@[expose] public section

noncomputable section

namespace Cert.KernelIdeal.Stream

open Cert.KernelIdeal Cert.KernelIdeal.Gen
open Idealize.ShloMosaic Idealize.ShloMosaic.TcCoe Idealize.ShloMosaic.Tactic

variable {F : FTy → Type} [FloatOps F]

/-! ## The result as a function -/

/-- The token's index of an element of the array: its row and column. -/
def rowCol (i : S77x1024x768.Idx) : S77x1024.Idx := Shape.pair (d := ![77, 1024]) (i 0) (i 1)
/-- The index in the placeholder's row of an element of the array: its lane. -/
def lane (i : S77x1024x768.Idx) : S1x1x768.Idx := fun b => ⟨if b.val = 2 then (i 2).val else 0, by
  fin_cases b
  · exact Nat.one_pos
  · exact Nat.one_pos
  · exact (i 2).isLt⟩
/-- The result: the placeholder's element where the token is 500, the text's elsewhere. -/
def outAt (T : S77x1024.Idx → BitVec 32) (P : S1x1x768.Idx → Elt F .f32) (E : S77x1024x768.Idx → Elt F .f32) :
    S77x1024x768.Idx → Elt F .f32 := fun i => if T (rowCol i) = 500#32 then P (lane i) else E i

/-- The element of the array under index `x` of block `b`. -/
def blkIdx (b : Fin 154) (x : S1x512x768.Idx) : S77x1024x768.Idx :=
  (Rect.unit (s := S77x1024x768) (blkOff b) S1x512x768.size (blkOff_inb b)).emb x

/-- Its coordinates. -/
theorem blkIdx_val (b : Fin 154) (x : S1x512x768.Idx) (d : Fin 3) : (blkIdx b x d).val = blkOff b d + (x d).val := by
  unfold blkIdx; rw [Rect.emb_apply]; simp

/-- Block `b` of the text reads the text under it. -/
theorem read_blkE (b : Fin 154) (X : (embH.view).ty.Contents (Elt F)) (x : S1x512x768.Idx) :
    (blkE b).view.read (Elt F) X x = X (blkIdx b x) := rfl
/-- Block `b` of the result reads the result under it. -/
theorem read_blkR (b : Fin 154) (X : (resH.view).ty.Contents (Elt F)) (x : S1x512x768.Idx) :
    (blkR b).view.read (Elt F) X x = X (blkIdx b x) := rfl

/-! ## The ring's slots -/

/-- Writing a whole payload through a view and reading it back gives the payload. -/
theorem read_whole_write {sp : Space} {s : Shape} {e : EltTy} {κ : Kind} (v : View sig κ sp s e) (f : v.ty.Contents (Elt F)) (w : s.Idx → Elt F e) :
    v.read (Elt F) (v.writes (Elt F) f [⟨Rect.whole s, w⟩]) = w := by
  funext x
  have h := View.read_slice_write_emb (v := v) (Rect.whole s) f w (M := Finset.univ) (Finset.mem_univ x)
  rw [Rect.emb_whole_apply] at h
  exact h

/-- A store of a tile to slot `s` of the output ring, read back as the transfer reads the slot. -/
theorem read_slO_store {off : Fin 4 → Nat} {s : Fin 10} (e : off = slotOff s) (inb : ∀ d, off d + S1x1x512x768.size d ≤ S10x1x512x768.size d)
    (g : (ringO.view).ty.Contents (Elt F)) (w : S1x512x768.Idx → Elt F .f32) (h : S1x512x768.ShapeCasts S1x1x512x768) :
    (slO s).view.read (Elt F) ((ringO.access (Rect.unit (s := S10x1x512x768) off S1x1x512x768.size inb)).write (Elt F) g (shapeCast S1x1x512x768 w h) Finset.univ) = w := by
  subst e
  funext x
  have e1 := View.read_write_univ (v := ringO.access (Rect.unit (s := S10x1x512x768) (slotOff s) S1x1x512x768.size inb)) g (shapeCast S1x1x512x768 w h)
  show (ringO.access (Rect.unit (s := S10x1x512x768) (slotOff s) S1x1x512x768.size inb)).read (Elt F) _ (Shape.reshapeEquiv _ x) = w x
  rw [e1]
  show w (Shape.reshapeEquiv _ (Shape.reshapeEquiv _ x)) = w x
  rw [Shape.reshapeEquiv_reshapeEquiv, Shape.reshapeEquiv_self]

/-- A load of slot `s` of the input ring, cast to a block, is what a transfer left there. -/
theorem load_slI {off : Fin 4 → Nat} {s : Fin 10} (e : off = slotOff s) (inb : ∀ d, off d + S1x1x512x768.size d ≤ S10x1x512x768.size d)
    (f : ((slI s).view).ty.Contents (Elt F)) (w : S1x512x768.Idx → Elt F .f32) (h : S1x1x512x768.ShapeCasts S1x512x768) :
    shapeCast S1x512x768 (ringI.view.readAt (Elt F) (Rect.unit (s := S10x1x512x768) off S1x1x512x768.size inb).toLoadRect
      ((slI s).view.writes (Elt F) f [⟨Rect.whole S1x512x768, w⟩])) h = w := by
  subst e
  have e1 := read_whole_write (slI s).view f w
  conv_rhs => rw [← e1]
  rfl

/-! ## The tile -/

/-- A comparison for equality is one where the words are equal. -/
theorem cmpi_eq_one (x y : BitVec 32) : IntOp.cmpi .eq x y = 1#1 ↔ x = y := by
  unfold IntOp.cmpi
  by_cases h : x = y
  · simp [h]
  · have e : (x == y) = false := by simp [h]
    show BitVec.ofBool (x == y) = 1#1 ↔ x = y
    rw [e]; exact ⟨fun h' => absurd h' (by decide), fun h' => absurd h' h⟩

/-- The tokens of trip `k`: `tv` reads `T` at row `k / 2` from column `k % 2 * 512`. -/
theorem tile_tok (k : Fin k0_t1_loop.trips) (T : S77x1024.Idx → BitVec 32) {o7 : Fin 2 → Nat} (e7 : o7 = ![k.val / 2, k.val % 2 * 512])
    (inb7 : ∀ d, o7 d + S1x512.size d ≤ S77x1024.size d) (y : S1x512.Idx) (x : S1x512x768.Idx) (hy0 : (y 0).val = 0) (hy : (y 1).val = (x 1).val) :
    T ((Rect.unit (s := S77x1024) o7 S1x512.size inb7).emb y) = T (rowCol (blkIdx (Ring.bk 154 k.val) x)) := by
  subst e7
  have hk := trip_lt k
  have hx0 : (x 0).val = 0 := by have h : (x 0).val < 1 := (x 0).isLt; omega
  have hb : (Ring.bk 154 k.val).val = k.val := Ring.bk_val hk
  have e0 : (blkIdx (Ring.bk 154 k.val) x 0).val = k.val / 2 + 0 := by
    rw [blkIdx_val, hx0]; show (Ring.bk 154 k.val).val / 2 + 0 = _; rw [hb]
  have e1 : (blkIdx (Ring.bk 154 k.val) x 1).val = k.val % 2 * 512 + (x 1).val := by
    rw [blkIdx_val]; show (Ring.bk 154 k.val).val % 2 * 512 + _ = _; rw [hb]
  refine congrArg T (Shape.idx_ext₂ ?_ ?_)
  · rw [Rect.emb_apply]
    show k.val / 2 + 1 * (y 0).val = (blkIdx (Ring.bk 154 k.val) x 0).val
    rw [e0, hy0]
  · rw [Rect.emb_apply]
    show k.val % 2 * 512 + 1 * (y 1).val = (blkIdx (Ring.bk 154 k.val) x 1).val
    rw [e1, hy]; omega

/-- What trip `k` stores, over the tokens `tv` and the placeholder's row `pv` it loaded and its block of the text: the result at
    the block. -/
theorem tile_eq (k : Fin k0_t1_loop.trips) (T : S77x1024.Idx → BitVec 32) (P : S1x1x768.Idx → Elt F .f32) (X : S77x1024x768.Idx → Elt F .f32)
    {o7 : Fin 2 → Nat} (e7 : o7 = ![k.val / 2, k.val % 2 * 512]) (inb7 : ∀ d, o7 d + S1x512.size d ≤ S77x1024.size d)
    (tv : S1x512.Idx → BitVec 32) (htv : ∀ y, tv y = T ((Rect.unit (s := S77x1024) o7 S1x512.size inb7).emb y))
    (pv : S1x1x768.Idx → Elt F .f32) (hpv : pv = P)
    (h1 : S1x512.ShapeCasts S1x512x1) (h2 : S1x512x1.ShapeCasts S1x512x1) (h3 : S1x512x1.Broadcasts S1x512x768)
    (h4 : S1x1x768.ShapeCasts S1x1x768) (h5 : S1x1x768.Broadcasts S1x512x768) :
    select (broadcastTo S1x512x768 (shapeCast S1x512x1 (cmpi .eq (shapeCast S1x512x1 tv h1) (broadcast S1x512x1 500#32)) h2) h3)
      (broadcastTo S1x512x768 (shapeCast S1x1x768 pv h4) h5)
      (fun x => X (blkIdx (Ring.bk 154 k.val) x))
    = fun x => outAt (F := F) T P X (blkIdx (Ring.bk 154 k.val) x) := by
  subst hpv
  funext x
  rw [shapeCast_self, shapeCast_self]
  have eT : broadcastTo S1x512x768 (cmpi .eq (shapeCast S1x512x1 tv h1) (broadcast S1x512x1 500#32)) h3 x
      = IntOp.cmpi .eq (T (rowCol (blkIdx (Ring.bk 154 k.val) x))) 500#32 := by
    rw [broadcastTo_apply _ h3 x (fun b : Fin 3 => ⟨if b.val = 1 then (x 1).val else 0, by
      fin_cases b
      · exact Nat.one_pos
      · exact (x 1).isLt
      · exact Nat.one_pos⟩ : S1x512x1.Idx) (by intro b; fin_cases b <;> rfl)]
    unfold cmpi
    rw [shapeCast_apply _ h1 _ (fun b : Fin 2 => ⟨if b.val = 1 then (x 1).val else 0, by
      fin_cases b
      · exact Nat.one_pos
      · exact (x 1).isLt⟩ : S1x512.Idx) (by
        rw [Shape.rowMajor_val_two, Shape.rowMajor_val_three]
        show 0 * 512 + (x 1).val = (0 * 512 + (x 1).val) * 1 + 0
        omega), htv]
    rw [tile_tok k T e7 inb7 _ x rfl rfl]
    rfl
  have eP : broadcastTo S1x512x768 pv h5 x = pv (lane (blkIdx (Ring.bk 154 k.val) x)) := by
    refine broadcastTo_apply _ h5 x _ (fun b => ?_)
    fin_cases b
    · rfl
    · rfl
    · show (blkIdx (Ring.bk 154 k.val) x 2).val = (x 2).val
      rw [blkIdx_val]; exact Nat.zero_add _
  show Scalar.select (broadcastTo S1x512x768 (cmpi .eq (shapeCast S1x512x1 tv h1) (broadcast S1x512x1 500#32)) h3 x) (broadcastTo S1x512x768 pv h5 x) _ = _
  rw [eT, eP]
  unfold outAt Scalar.select
  by_cases h : T (rowCol (blkIdx (Ring.bk 154 k.val) x)) = 500#32
  · rw [if_pos h]; exact if_pos ((cmpi_eq_one _ _).2 h)
  · rw [if_neg h]; exact if_neg (fun h' => h ((cmpi_eq_one _ _).1 h'))

/-- The result over the buffers as the loop finds them: the tokens `XT`, the placeholder's row `XP`, the text `XE`. -/
def outBuf (c : Dev nD) (a : Memref sig .tc .vmem S77x1024 .i32) (p : Memref sig .tc .vmem S1x1x768 .f32)
    (XE : Buf (Elt F) (embH.view.loc (c : Thread nD τ))) (XT : Buf (Elt F) (a.view.loc (c : Thread nD τ)))
    (XP : Buf (Elt F) (p.view.loc (c : Thread nD τ))) : Buf (Elt F) (resH.view.loc (c : Thread nD τ)) :=
  outAt (F := F) (a.view.read (Elt F) XT) (p.view.read (Elt F) XP) XE

/-- The block trip `k` stores, read back as its transfer reads the slot: the result at the block. -/
theorem read_stored (c : Dev nD) (a : Memref sig .tc .vmem S77x1024 .i32) (p : Memref sig .tc .vmem S1x1x768 .f32)
    (XE : Buf (Elt F) (embH.view.loc (c : Thread nD τ))) (XT : Buf (Elt F) (a.view.loc (c : Thread nD τ)))
    (XP : Buf (Elt F) (p.view.loc (c : Thread nD τ))) (k : Fin k0_t1_loop.trips)
    (f : Buf (Elt F) ((slI (Ring.sl 10 k.val)).view.loc (c : Thread nD τ))) (g : Buf (Elt F) (ringO.view.loc (c : Thread nD τ))) :
    (slO (Ring.sl 10 k.val)).view.read (Elt F)
      ((ringO.access (Rect.unit (s := S10x1x512x768) (k0_off8 k) S1x1x512x768.size (k0_off8_inb k))).write (Elt F) g
        (k0_pay3 (k0_pay1 (a.view.readAt (Elt F) (Rect.unit (s := S77x1024) (k0_off7 k) S1x512.size (k0_off7_inb k)).toLoadRect XT))
          (p.view.readAt (Elt F) (Rect.unit (s := S1x1x768) ![0, 0, 0] S1x1x768.size inb_S1x1x768_S1x1x768_0_0_0).toLoadRect XP)
          (k0_pay2 (ringI.view.readAt (Elt F) (Rect.unit (s := S10x1x512x768) (k0_off8 k) S1x1x512x768.size (k0_off8_inb k)).toLoadRect
            ((slI (Ring.sl 10 k.val)).view.writes (Elt F) f [⟨Rect.whole S1x512x768, blockIn c XE (Ring.bk 154 k.val)⟩]))))
        Finset.univ)
    = fun x => outBuf c a p XE XT XP (blkIdx (Ring.bk 154 k.val) x) := by
  refine (read_slO_store (off8_eq k) (k0_off8_inb k) g _ shapeCasts_S1x512x768_S1x1x512x768).trans ?_
  have e : (k0_pay2 (F := F) (ringI.view.readAt (Elt F) (Rect.unit (s := S10x1x512x768) (k0_off8 k) S1x1x512x768.size (k0_off8_inb k)).toLoadRect
            ((slI (Ring.sl 10 k.val)).view.writes (Elt F) f [⟨Rect.whole S1x512x768, blockIn c XE (Ring.bk 154 k.val)⟩])))
      = fun x => XE (blkIdx (Ring.bk 154 k.val) x) :=
    load_slI (off8_eq k) (k0_off8_inb k) f (blockIn c XE (Ring.bk 154 k.val)) shapeCasts_S1x1x512x768_S1x512x768
  rw [e]
  refine tile_eq k (a.view.read (Elt F) XT) (p.view.read (Elt F) XP) XE (off7_eq k) (k0_off7_inb k)
    (a.view.readAt (Elt F) (Rect.unit (s := S77x1024) (k0_off7 k) S1x512.size (k0_off7_inb k)).toLoadRect XT) (fun y => rfl)
    (p.view.readAt (Elt F) (Rect.unit (s := S1x1x768) ![0, 0, 0] S1x1x768.size inb_S1x1x768_S1x1x768_0_0_0).toLoadRect XP) ?_ _ _ _ _ _
  funext y
  refine congrArg (p.view.read (Elt F) XP) (funext fun b => Fin.ext ?_)
  fin_cases b <;> exact (Nat.zero_add _).trans (Nat.one_mul _)

end Cert.KernelIdeal.Stream
-- ==== Proof.Trip.lean ====
/-
  One trip of the kernel's loop, in its three cases: the first ten trips find their output slot free, the trips after them wait
  for the transfer ten trips back to leave it, and the last ten trips fetch no further block.
-/
module

public import proofs.«01_k».proof.Proof.Tile

@[expose] public section

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem entails_of_eq {P Q : sProp 𝕄} (e : P = Q) : P ⊢ Q := e ▸ .rfl

variable (c : Dev nD) (t : Memref sig .tc .hbm S77x1024 .i32) (ht : t.IsWhole) (q : Memref sig .tc .hbm S1x1x768 .f32) (hq : q.IsWhole)
  (a : Memref sig .tc .vmem S77x1024 .i32) (ha : a.IsWhole) (p : Memref sig .tc .vmem S1x1x768 .f32) (hp : p.IsWhole)
variable (XE : Buf (Elt F) (embH.view.loc (c : Thread nD τ)))
  (XT : Buf (Elt F) (a.view.loc (c : Thread nD τ))) (XP : Buf (Elt F) (p.view.loc (c : Thread nD τ)))
  (XR : Buf (Elt F) (resH.view.loc (c : Thread nD τ)))

/-- The tokens and the placeholder's row in VMEM, and what the core owes. -/
abbrev base : sProp 𝕄 :=
  iprop((∃ W, owes (c : Thread nD τ) 0 W) ∗ (a.view.loc (c : Thread nD τ) ↦[a.view.set]{fullShare} XT) ∗ (p.view.loc (c : Thread nD τ) ↦[p.view.set]{fullShare} XP))
/-- Slot `s` on its way out to block `b`, holding the result's elements of the block. -/
abbrev going (s : Fin 10) (b : Fin 154) : sProp 𝕄 :=
  iprop(∃ g, flO c s b g XR ∗ ⌜(slO s).view.read (Elt F) g = fun x => outBuf c a p XE XT XP (blkIdx b x)⌝)
/-- Slot `s` fetching block `b`. -/
abbrev coming (s : Fin 10) (b : Fin 154) : sProp 𝕄 := iprop(∃ f, flI c XE s b f)
/-- Slot `s` of the input ring free, with its semaphore. -/
abbrev freeI (s : Fin 10) : sProp 𝕄 := iprop(cellI c s ∗ ∃ f, heldI c s f)
/-- Slot `s` of the output ring free, with its semaphore. -/
abbrev freeO (s : Fin 10) : sProp 𝕄 := iprop(cellO c s ∗ ∃ f, heldO c s f)

/-- Block `b` of the result as a transfer of the result's elements leaves it. -/
theorem landed_out (b : Fin 154) (s : Fin 10) (g : Buf (Elt F) ((slO s).view.loc (c : Thread nD τ)))
    (OUT : Buf (Elt F) (resH.view.loc (c : Thread nD τ))) (h : (slO s).view.read (Elt F) g = fun x => OUT (blkIdx b x)) :
    (heldR c b ((blkR b).view.writes (Elt F) XR [⟨Rect.whole S1x512x768, ReadAs.same.apply ((slO s).view.read (Elt F) g)⟩]) : sProp 𝕄) = heldR c b OUT := by
  refine pointsTo_congr fun i hi => ?_
  obtain ⟨x, -, rfl⟩ := Finset.mem_map.mp hi
  refine View.eq_of_read_eq (v := (blkR b).view) (x := x) ?_
  exact (congrFun (read_whole_write (blkR b).view XR _) x).trans (congrFun h x)

set_option backward.proofsInPublic true in
/-- A trip between the tenth and the last ten: the slot's last transfer out is waited for, the next block fetched. -/
theorem trip_mid (k : Fin k0_t1_loop.trips) (h10 : 10 ≤ k.val) (h154 : k.val + 10 < 154) :
    iprop(base c a p XT XP ∗ coming c XE (Ring.sl 10 k.val) (Ring.bk 154 k.val) ∗ homeE c XE (Ring.bk 154 (k.val + 10))
      ∗ going c a p XE XT XP XR (Ring.sl 10 k.val) (Ring.bk 154 (k.val - 10)) ∗ heldR c (Ring.bk 154 k.val) XR)
    ⊢ wp frame (wpE (defs₀ (F := F)) 𝒱₀ (c : Thread nD τ) none) Set.univ (trip (F := F) t ht q hq a ha p hp k)
        (fun _ => iprop(base c a p XT XP ∗ coming c XE (Ring.sl 10 k.val) (Ring.bk 154 (k.val + 10)) ∗ homeE c XE (Ring.bk 154 k.val)
          ∗ going c a p XE XT XP XR (Ring.sl 10 k.val) (Ring.bk 154 k.val) ∗ heldR c (Ring.bk 154 (k.val - 10)) (outBuf c a p XE XT XP))) := by
  have hc1 : k0_cond1 k = 1#1 := (cond1_iff k).2 h10
  have hc2 : k0_cond2 k = 1#1 := (cond2_iff k).2 h154
  iintro ⟨⟨⟨%W, HW⟩, HT, HP⟩, ⟨%f, HI⟩, HE, ⟨%g, HO, %hg⟩, HR⟩
  dsimp only [trip]
  sl_unfold [k0_t1_body]
  sl_exec
  sl_step
  isplitl [HW HT HP]
  · isplitl [HW]; · iexists _; iexact HW
    isplitl [HT]; · iexact HT
    iexact HP
  isplitl [HI]; · iexists _; iexact HI
  isplitl [HI_src]; · iexact HI_src
  isplitl [HO]
  · iexists _
    isplitl [HO]; · iexact HO
    ipureintro; exact read_stored c a p XE XT XP k _ _
  irw [← landed_out c XR _ _ g _ hg]; iexact HO_dst

set_option backward.proofsInPublic true in
/-- One of the first ten trips: its output slot is free. -/
theorem trip_first (k : Fin k0_t1_loop.trips) (h10 : k.val < 10) :
    iprop(base c a p XT XP ∗ coming c XE (Ring.sl 10 k.val) (Ring.bk 154 k.val) ∗ homeE c XE (Ring.bk 154 (k.val + 10))
      ∗ freeO c (Ring.sl 10 k.val) ∗ heldR c (Ring.bk 154 k.val) XR)
    ⊢ wp frame (wpE (defs₀ (F := F)) 𝒱₀ (c : Thread nD τ) none) Set.univ (trip (F := F) t ht q hq a ha p hp k)
        (fun _ => iprop(base c a p XT XP ∗ coming c XE (Ring.sl 10 k.val) (Ring.bk 154 (k.val + 10)) ∗ homeE c XE (Ring.bk 154 k.val)
          ∗ going c a p XE XT XP XR (Ring.sl 10 k.val) (Ring.bk 154 k.val))) := by
  have h154 : k.val + 10 < 154 := by omega
  have hc1 : ¬ k0_cond1 k = 1#1 := fun h => absurd ((cond1_iff k).1 h) (by omega)
  have hc2 : k0_cond2 k = 1#1 := (cond2_iff k).2 h154
  iintro ⟨⟨⟨%W, HW⟩, HT, HP⟩, ⟨%f, HI⟩, HE, ⟨HO, %g, HOs⟩, HR⟩
  dsimp only [trip]
  sl_unfold [k0_t1_body]
  sl_exec
  sl_step
  isplitl [HW HT HP]
  · isplitl [HW]; · iexists _; iexact HW
    isplitl [HT]; · iexact HT
    iexact HP
  isplitl [HI]; · iexists _; iexact HI
  isplitl [HI_src]; · iexact HI_src
  iexists _
  isplitl [HO]; · iexact HO
  ipureintro; exact read_stored c a p XE XT XP k _ _

set_option backward.proofsInPublic true in
/-- One of the last ten trips: no block is left to fetch. -/
theorem trip_last (k : Fin k0_t1_loop.trips) (h144 : 154 ≤ k.val + 10) :
    iprop(base c a p XT XP ∗ coming c XE (Ring.sl 10 k.val) (Ring.bk 154 k.val)
      ∗ going c a p XE XT XP XR (Ring.sl 10 k.val) (Ring.bk 154 (k.val - 10)) ∗ heldR c (Ring.bk 154 k.val) XR)
    ⊢ wp frame (wpE (defs₀ (F := F)) 𝒱₀ (c : Thread nD τ) none) Set.univ (trip (F := F) t ht q hq a ha p hp k)
        (fun _ => iprop(base c a p XT XP ∗ freeI c (Ring.sl 10 k.val) ∗ homeE c XE (Ring.bk 154 k.val)
          ∗ going c a p XE XT XP XR (Ring.sl 10 k.val) (Ring.bk 154 k.val) ∗ heldR c (Ring.bk 154 (k.val - 10)) (outBuf c a p XE XT XP))) := by
  have h10 : 10 ≤ k.val := by omega
  have hc1 : k0_cond1 k = 1#1 := (cond1_iff k).2 h10
  have hc2 : ¬ k0_cond2 k = 1#1 := fun h => absurd ((cond2_iff k).1 h) (by omega)
  iintro ⟨⟨⟨%W, HW⟩, HT, HP⟩, ⟨%f, HI⟩, ⟨%g, HO, %hg⟩, HR⟩
  dsimp only [trip]
  sl_unfold [k0_t1_body]
  sl_exec
  sl_step
  isplitl [HW HT HP]
  · isplitl [HW]; · iexists _; iexact HW
    isplitl [HT]; · iexact HT
    iexact HP
  isplitl [HI HI_dst]
  · isplitl [HI]; · iexact HI
    iexists _; iexact HI_dst
  isplitl [HI_src]; · iexact HI_src
  isplitl [HO]
  · iexists _
    isplitl [HO]; · iexact HO
    ipureintro; exact read_stored c a p XE XT XP k _ _
  irw [← landed_out c XR _ _ g _ hg]; iexact HO_dst

end Cert.KernelIdeal.Stream
-- ==== Proof.Stages.lean ====
/-
  The kernel's loop. Before trip `k` the fetches of blocks `k … k + 9` are under way in their slots (or, near the end, the slots
  are free), the results of blocks `k - 10 … k - 1` are on their way out (or, near the start, the slots are free), the blocks of
  the text before `k` and from `k + 10` on are at rest, the result is written up to block `k - 11` and untouched from block `k`.
-/
module

public import proofs.«01_k».proof.Proof.Trip

@[expose] public section

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (t : Memref sig .tc .hbm S77x1024 .i32) (ht : t.IsWhole) (q : Memref sig .tc .hbm S1x1x768 .f32) (hq : q.IsWhole)
  (a : Memref sig .tc .vmem S77x1024 .i32) (ha : a.IsWhole) (p : Memref sig .tc .vmem S1x1x768 .f32) (hp : p.IsWhole)
variable (XE : Buf (Elt F) (embH.view.loc (c : Thread nD τ)))
  (XT : Buf (Elt F) (a.view.loc (c : Thread nD τ))) (XP : Buf (Elt F) (p.view.loc (c : Thread nD τ)))
  (XR : Buf (Elt F) (resH.view.loc (c : Thread nD τ)))

/-! ## The two rings' slots, by the block about to use them -/

/-- The input slot block `b` uses, when it is the next to use it: fetching the block, or free when there is none. -/
def inSlot (b : ℕ) : sProp 𝕄 := if b < 154 then coming c XE (Ring.sl 10 b) (Ring.bk 154 b) else freeI c (Ring.sl 10 b)
/-- The output slot block `b` uses, when it is the next to use it: on its way out with block `b - 10`, or free when there is none. -/
def outSlot (b : ℕ) : sProp 𝕄 :=
  if b < 10 then freeO c (Ring.sl 10 b) else going c a p XE XT XP XR (Ring.sl 10 b) (Ring.bk 154 (b - 10))
/-- Block `b` of the text at rest. -/
abbrev textAt (b : ℕ) : sProp 𝕄 := homeE c XE (Ring.bk 154 b)
/-- Block `b` of the result, holding the result's elements. -/
abbrev doneAt (b : ℕ) : sProp 𝕄 := heldR c (Ring.bk 154 b) (outBuf c a p XE XT XP)
/-- Block `b` of the result, as at the start. -/
abbrev todoAt (b : ℕ) : sProp 𝕄 := heldR c (Ring.bk 154 b) XR

/-- The state before trip `k`. -/
def stage (k : ℕ) : sProp 𝕄 :=
  iprop(base c a p XT XP
    ∗ (bigSep (Finset.range k) (textAt c XE) ∗ bigSep (Finset.Ico (k + 10) 154) (textAt c XE))
    ∗ bigSep (Finset.Ico k (k + 10)) (inSlot c XE) ∗ bigSep (Finset.Ico k (k + 10)) (outSlot c a p XE XT XP XR)
    ∗ bigSep (Finset.range (k - 10)) (doneAt c a p XE XT XP) ∗ bigSep (Finset.Ico k 154) (todoAt c XR))

/-! ## Taking one member out of a run of them -/

/-- The first of a run apart. -/
theorem run_head {lo hi : ℕ} (h : lo < hi) (Φ : ℕ → sProp 𝕄) :
    bigSep (Finset.Ico lo hi) Φ = iprop(Φ lo ∗ bigSep (Finset.Ico (lo + 1) hi) Φ) := by
  rw [Ring.Ico_eq_insert h, bigSep_insert (by simp)]; rfl
/-- The last of a run apart. -/
theorem run_last {lo hi : ℕ} (h : lo ≤ hi) (Φ : ℕ → sProp 𝕄) :
    bigSep (Finset.Ico lo (hi + 1)) Φ = iprop(Φ hi ∗ bigSep (Finset.Ico lo hi) Φ) := by
  rw [show Finset.Ico lo (hi + 1) = insert hi (Finset.Ico lo hi) by ext x; simp; omega, bigSep_insert (by simp)]; rfl
/-- The last of the first `n + 1` apart. -/
theorem range_last (n : ℕ) (Φ : ℕ → sProp 𝕄) :
    bigSep (Finset.range (n + 1)) Φ = iprop(Φ n ∗ bigSep (Finset.range n) Φ) := by
  rw [Finset.range_add_one, bigSep_insert (by simp)]; rfl

/-! ## One trip takes one stage to the next -/

/-- One of the first ten trips. -/
theorem step_first (k : Fin k0_t1_loop.trips) (h10 : k.val < 10) :
    stage c a p XE XT XP XR k.val ⊢ wp frame (wpE (defs₀ (F := F)) 𝒱₀ (c : Thread nD τ) none) Set.univ (trip (F := F) t ht q hq a ha p hp k)
      (fun _ => stage c a p XE XT XP XR (k.val + 1)) := by
  unfold stage
  rw [run_head (show k.val + 10 < 154 by omega), run_head (show k.val < k.val + 10 by omega), run_head (show k.val < k.val + 10 by omega),
    run_head (show k.val < 154 by omega), range_last k.val,
    show k.val + 1 + 10 = (k.val + 10) + 1 by omega,
    run_last (show k.val + 1 ≤ k.val + 10 by omega), run_last (show k.val + 1 ≤ k.val + 10 by omega),
    show k.val - 10 = 0 by omega, show k.val + 1 - 10 = 0 by omega]
  have e1 : inSlot c XE k.val = coming c XE (Ring.sl 10 k.val) (Ring.bk 154 k.val) := if_pos (by omega)
  have e2 : inSlot c XE (k.val + 10) = coming c XE (Ring.sl 10 k.val) (Ring.bk 154 (k.val + 10)) := by
    rw [← Ring.sl_add 10 k.val]; exact if_pos (by omega)
  have e3 : outSlot c a p XE XT XP XR k.val = freeO c (Ring.sl 10 k.val) := if_pos (by omega)
  have e4 : outSlot c a p XE XT XP XR (k.val + 10) = going c a p XE XT XP XR (Ring.sl 10 k.val) (Ring.bk 154 k.val) := by
    rw [← Ring.sl_add 10 k.val]; exact if_neg (by omega)
  rw [e1, e2, e3, e4]
  iintro ⟨HB, ⟨HA, HE, HF⟩, ⟨HI, HI'⟩, ⟨HO, HO'⟩, HD, HR, HR'⟩
  iapply (wp_wand_r Idealize.ShloMosaic.frame (wpE (defs₀ (F := F)) 𝒱₀ (c : Thread nD τ) none) Set.univ)
  isplitl [HB HE HI HO HR]
  · iapply (trip_first c t ht q hq a ha p hp XE XT XP XR k h10)
    isplitl [HB]; · iexact HB
    isplitl [HI]; · iexact HI
    isplitl [HE]; · iexact HE
    isplitl [HO]; · iexact HO
    iexact HR
  · iintro %_ ⟨HB, HI, HE, HO⟩
    isplitl [HB]; · iexact HB
    isplitl [HE HA HF]
    · isplitl [HE HA]
      · isplitl [HE]; · iexact HE
        iexact HA
      iexact HF
    isplitl [HI HI']
    · isplitl [HI]; · iexact HI
      iexact HI'
    isplitl [HO HO']
    · isplitl [HO]; · iexact HO
      iexact HO'
    isplitl [HD]; · iexact HD
    iexact HR'

/-- A trip between the tenth and the last ten. -/
theorem step_mid (k : Fin k0_t1_loop.trips) (h10 : 10 ≤ k.val) (h154 : k.val + 10 < 154) :
    stage c a p XE XT XP XR k.val ⊢ wp frame (wpE (defs₀ (F := F)) 𝒱₀ (c : Thread nD τ) none) Set.univ (trip (F := F) t ht q hq a ha p hp k)
      (fun _ => stage c a p XE XT XP XR (k.val + 1)) := by
  unfold stage
  rw [run_head (show k.val + 10 < 154 by omega), run_head (show k.val < k.val + 10 by omega), run_head (show k.val < k.val + 10 by omega),
    run_head (show k.val < 154 by omega), range_last k.val,
    show k.val + 1 + 10 = (k.val + 10) + 1 by omega,
    run_last (show k.val + 1 ≤ k.val + 10 by omega), run_last (show k.val + 1 ≤ k.val + 10 by omega),
    show k.val + 1 - 10 = (k.val - 10) + 1 by omega, range_last (k.val - 10)]
  have e1 : inSlot c XE k.val = coming c XE (Ring.sl 10 k.val) (Ring.bk 154 k.val) := if_pos (by omega)
  have e2 : inSlot c XE (k.val + 10) = coming c XE (Ring.sl 10 k.val) (Ring.bk 154 (k.val + 10)) := by
    rw [← Ring.sl_add 10 k.val]; exact if_pos (by omega)
  have e3 : outSlot c a p XE XT XP XR k.val = going c a p XE XT XP XR (Ring.sl 10 k.val) (Ring.bk 154 (k.val - 10)) := if_neg (by omega)
  have e4 : outSlot c a p XE XT XP XR (k.val + 10) = going c a p XE XT XP XR (Ring.sl 10 k.val) (Ring.bk 154 k.val) := by
    rw [← Ring.sl_add 10 k.val]; exact if_neg (by omega)
  rw [e1, e2, e3, e4]
  iintro ⟨HB, ⟨HA, HE, HF⟩, ⟨HI, HI'⟩, ⟨HO, HO'⟩, HD, HR, HR'⟩
  iapply (wp_wand_r Idealize.ShloMosaic.frame (wpE (defs₀ (F := F)) 𝒱₀ (c : Thread nD τ) none) Set.univ)
  isplitl [HB HE HI HO HR]
  · iapply (trip_mid c t ht q hq a ha p hp XE XT XP XR k h10 h154)
    isplitl [HB]; · iexact HB
    isplitl [HI]; · iexact HI
    isplitl [HE]; · iexact HE
    isplitl [HO]; · iexact HO
    iexact HR
  · iintro %_ ⟨HB, HI, HE, HO, HR⟩
    isplitl [HB]; · iexact HB
    isplitl [HE HA HF]
    · isplitl [HE HA]
      · isplitl [HE]; · iexact HE
        iexact HA
      iexact HF
    isplitl [HI HI']
    · isplitl [HI]; · iexact HI
      iexact HI'
    isplitl [HO HO']
    · isplitl [HO]; · iexact HO
      iexact HO'
    isplitl [HR HD]
    · isplitl [HR]; · iexact HR
      iexact HD
    iexact HR'

/-- One of the last ten trips. -/
theorem step_last (k : Fin k0_t1_loop.trips) (h144 : 154 ≤ k.val + 10) :
    stage c a p XE XT XP XR k.val ⊢ wp frame (wpE (defs₀ (F := F)) 𝒱₀ (c : Thread nD τ) none) Set.univ (trip (F := F) t ht q hq a ha p hp k)
      (fun _ => stage c a p XE XT XP XR (k.val + 1)) := by
  have hk := trip_lt k
  unfold stage
  rw [Finset.Ico_eq_empty (show ¬ k.val + 10 < 154 by omega), Finset.Ico_eq_empty (show ¬ k.val + 1 + 10 < 154 by omega),
    run_head (show k.val < k.val + 10 by omega), run_head (show k.val < k.val + 10 by omega),
    run_head (show k.val < 154 by omega), range_last k.val,
    show k.val + 1 + 10 = (k.val + 10) + 1 by omega,
    run_last (show k.val + 1 ≤ k.val + 10 by omega), run_last (show k.val + 1 ≤ k.val + 10 by omega),
    show k.val + 1 - 10 = (k.val - 10) + 1 by omega, range_last (k.val - 10)]
  have e1 : inSlot c XE k.val = coming c XE (Ring.sl 10 k.val) (Ring.bk 154 k.val) := if_pos (by omega)
  have e2 : inSlot c XE (k.val + 10) = freeI (F := F) c (Ring.sl 10 k.val) := by
    rw [← Ring.sl_add 10 k.val]; exact if_neg (by omega)
  have e3 : outSlot c a p XE XT XP XR k.val = going c a p XE XT XP XR (Ring.sl 10 k.val) (Ring.bk 154 (k.val - 10)) := if_neg (by omega)
  have e4 : outSlot c a p XE XT XP XR (k.val + 10) = going c a p XE XT XP XR (Ring.sl 10 k.val) (Ring.bk 154 k.val) := by
    rw [← Ring.sl_add 10 k.val]; exact if_neg (by omega)
  rw [e1, e2, e3, e4]
  iintro ⟨HB, ⟨HA, HF⟩, ⟨HI, HI'⟩, ⟨HO, HO'⟩, HD, HR, HR'⟩
  iapply (wp_wand_r Idealize.ShloMosaic.frame (wpE (defs₀ (F := F)) 𝒱₀ (c : Thread nD τ) none) Set.univ)
  isplitl [HB HI HO HR]
  · iapply (trip_last c t ht q hq a ha p hp XE XT XP XR k h144)
    isplitl [HB]; · iexact HB
    isplitl [HI]; · iexact HI
    isplitl [HO]; · iexact HO
    iexact HR
  · iintro %_ ⟨HB, HI, HE, HO, HR⟩
    isplitl [HB]; · iexact HB
    isplitl [HE HA HF]
    · isplitl [HE HA]
      · isplitl [HE]; · iexact HE
        iexact HA
      iexact HF
    isplitl [HI HI']
    · isplitl [HI]; · iexact HI
      iexact HI'
    isplitl [HO HO']
    · isplitl [HO]; · iexact HO
      iexact HO'
    isplitl [HR HD]
    · isplitl [HR]; · iexact HR
      iexact HD
    iexact HR'

set_option warn.classDefReducibility false in
/-- The loop's invariant. -/
@[sl_loop] def loopInv :
    LoopInvTy_k0_t1 (F := F) Unit ℕ (Pipeline.UD sig nD τ) ℕ 𝒱₀ c none Set.univ t ht embH (Memref.isWhole_whole _) q hq resH (Memref.isWhole_whole _)
      a ha p hp ringI (Memref.isWhole_whole _) ringO (Memref.isWhole_whole _) cc0_scratch4 cc0_scratch5 cc0_scratch6 cc0_scratch7 where
  inv k _ := stage c a p XE XT XP XR k
  step k _ := by
    by_cases h10 : k.val < 10
    · exact step_first c t ht q hq a ha p hp XE XT XP XR k h10
    · by_cases h154 : k.val + 10 < 154
      · exact step_mid c t ht q hq a ha p hp XE XT XP XR k (by omega) h154
      · exact step_last c t ht q hq a ha p hp XE XT XP XR k (by omega)

end Cert.KernelIdeal.Stream
-- ==== Proof.Body.lean ====
/-
  The kernel's body, from the buffers at rest to the result written.
-/
module

public import proofs.«01_k».proof.Proof.Stages

@[expose] public section

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (t : Memref sig .tc .hbm S77x1024 .i32) (ht : t.IsWhole) (q : Memref sig .tc .hbm S1x1x768 .f32) (hq : q.IsWhole)
  (a : Memref sig .tc .vmem S77x1024 .i32) (ha : a.IsWhole) (p : Memref sig .tc .vmem S1x1x768 .f32) (hp : p.IsWhole)
variable (XE : Buf (Elt F) (embH.view.loc (c : Thread nD τ)))
  (XTH : Buf (Elt F) (t.view.loc (c : Thread nD τ))) (XPH : Buf (Elt F) (q.view.loc (c : Thread nD τ)))
  (XR : Buf (Elt F) (resH.view.loc (c : Thread nD τ)))

/-- The body's program. -/
abbrev bodyG : Prog (TpuEff nD τ sig (Elt F) Λ₀ .tc) PUnit :=
  cc0__stream_kernel (F := F) t ht embH (Memref.isWhole_whole _) q hq resH (Memref.isWhole_whole _)
    a ha p hp ringI (Memref.isWhole_whole _) ringO (Memref.isWhole_whole _) cc0_scratch4 cc0_scratch5 cc0_scratch6 cc0_scratch7

/-- The HBM operands the body copies whole and their semaphores. -/
abbrev copies : sProp 𝕄 :=
  iprop((t.view.loc (c : Thread nD τ) ↦[t.view.set]{fullShare} XTH) ∗ (q.view.loc (c : Thread nD τ) ↦[q.view.set]{fullShare} XPH)
    ∗ semVal ((c : Thread nD τ), SemLoc.dma cc0_scratch4.sem) 0 ∗ semVal ((c : Thread nD τ), SemLoc.dma cc0_scratch5.sem) 0)
/-- The two VMEM buffers, holding anything, and what the core owes. -/
abbrev scratch : sProp 𝕄 :=
  iprop((∃ W, owes (c : Thread nD τ) 0 W) ∗ (∃ f, a.view.loc (c : Thread nD τ) ↦[a.view.set]{fullShare} f) ∗ (∃ f, p.view.loc (c : Thread nD τ) ↦[p.view.set]{fullShare} f))

/-- A run of ten, member by member. -/
theorem run_ten (k : ℕ) (Φ : ℕ → sProp 𝕄) :
    bigSep (Finset.Ico k (k + 10)) Φ = iprop(Φ k ∗ Φ (k + 1) ∗ Φ (k + 2) ∗ Φ (k + 3) ∗ Φ (k + 4) ∗ Φ (k + 5) ∗ Φ (k + 6) ∗ Φ (k + 7) ∗ Φ (k + 8) ∗ Φ (k + 9)) := by
  rw [run_head (show k < k + 10 by omega), run_head (show k + 1 < k + 10 by omega), run_head (show k + 1 + 1 < k + 10 by omega),
    run_head (show k + 1 + 1 + 1 < k + 10 by omega), run_head (show k + 1 + 1 + 1 + 1 < k + 10 by omega),
    run_head (show k + 1 + 1 + 1 + 1 + 1 < k + 10 by omega), run_head (show k + 1 + 1 + 1 + 1 + 1 + 1 < k + 10 by omega),
    run_head (show k + 1 + 1 + 1 + 1 + 1 + 1 + 1 < k + 10 by omega), run_head (show k + 1 + 1 + 1 + 1 + 1 + 1 + 1 + 1 < k + 10 by omega),
    show Finset.Ico (k + 1 + 1 + 1 + 1 + 1 + 1 + 1 + 1 + 1) (k + 10) = {k + 9} by ext x; simp, bigSep_singleton]

variable (XT : Buf (Elt F) (a.view.loc (c : Thread nD τ))) (XP : Buf (Elt F) (p.view.loc (c : Thread nD τ)))

/-- The state before the first trip. -/
theorem stage_start :
    iprop(base c a p XT XP ∗ bigSep (Finset.Ico 10 154) (textAt c XE)
      ∗ (coming c XE 0 0 ∗ coming c XE 1 1 ∗ coming c XE 2 2 ∗ coming c XE 3 3 ∗ coming c XE 4 4 ∗ coming c XE 5 5 ∗ coming c XE 6 6 ∗ coming c XE 7 7 ∗ coming c XE 8 8 ∗ coming c XE 9 9)
      ∗ (freeO c 0 ∗ freeO c 1 ∗ freeO c 2 ∗ freeO c 3 ∗ freeO c 4 ∗ freeO c 5 ∗ freeO c 6 ∗ freeO c 7 ∗ freeO c 8 ∗ freeO c 9)
      ∗ bigSep (Finset.Ico 0 154) (todoAt c XR))
    ⊢ stage c a p XE XT XP XR 0 := by
  unfold stage
  rw [run_ten 0, run_ten 0, show 0 - 10 = 0 from rfl, Finset.range_zero, bigSep_empty, bigSep_empty]
  iintro ⟨HB, HE, HI, HO, HR⟩
  isplitl [HB]; · iexact HB
  isplitl [HE]
  · isplitr; · iempintro
    iexact HE
  isplitl [HI]; · iexact HI
  isplitl [HO]; · iexact HO
  isplitr; · iempintro
  iexact HR

/-- The state after the last trip: the last ten blocks on their way out. -/
theorem stage_end (n : ℕ) (hn : n = 154) :
    stage c a p XE XT XP XR n
    ⊢ iprop(base c a p XT XP ∗ bigSep (Finset.range 154) (textAt c XE)
      ∗ (freeI c 4 ∗ freeI c 5 ∗ freeI c 6 ∗ freeI c 7 ∗ freeI c 8 ∗ freeI c 9 ∗ freeI c 0 ∗ freeI c 1 ∗ freeI c 2 ∗ freeI c 3)
      ∗ (going c a p XE XT XP XR 4 144 ∗ going c a p XE XT XP XR 5 145 ∗ going c a p XE XT XP XR 6 146 ∗ going c a p XE XT XP XR 7 147 ∗ going c a p XE XT XP XR 8 148
        ∗ going c a p XE XT XP XR 9 149 ∗ going c a p XE XT XP XR 0 150 ∗ going c a p XE XT XP XR 1 151 ∗ going c a p XE XT XP XR 2 152 ∗ going c a p XE XT XP XR 3 153)
      ∗ bigSep (Finset.range 144) (doneAt c a p XE XT XP)) := by
  subst hn
  unfold stage
  rw [run_ten 154, run_ten 154, show 154 - 10 = 144 from rfl]
  iintro ⟨HB, ⟨HE, -⟩, HI, HO, HD, -⟩
  isplitl [HB]; · iexact HB
  isplitl [HE]; · iexact HE
  isplitl [HI]; · iexact HI
  isplitl [HO]; · iexact HO
  iexact HD

/-- The result over the HBM operands: the tokens `XTH`, the placeholder's row `XPH`, the text `XE`. -/
def outH : Buf (Elt F) (resH.view.loc (c : Thread nD τ)) := outAt (F := F) (t.view.read (Elt F) XTH) (q.view.read (Elt F) XPH) XE

/-- The VMEM buffers hold copies of the HBM operands, so the result over the one is the result over the other. -/
theorem outBuf_copies (fa : Buf (Elt F) (a.view.loc (c : Thread nD τ))) (fp : Buf (Elt F) (p.view.loc (c : Thread nD τ))) :
    outBuf c a p XE (a.view.writes (Elt F) fa [⟨Rect.whole S77x1024, ReadAs.same.apply (t.view.read (Elt F) XTH)⟩])
      (p.view.writes (Elt F) fp [⟨Rect.whole S1x1x768, ReadAs.same.apply (q.view.read (Elt F) XPH)⟩]) = outH c t q XE XTH XPH := by
  unfold outBuf outH
  rw [read_whole_write, read_whole_write]

/-- The result written: the last ten blocks beside the first 144. -/
theorem done_all (OUT : Buf (Elt F) (resH.view.loc (c : Thread nD τ))) :
    iprop((heldR c 144 OUT ∗ heldR c 145 OUT ∗ heldR c 146 OUT ∗ heldR c 147 OUT ∗ heldR c 148 OUT ∗ heldR c 149 OUT ∗ heldR c 150 OUT ∗ heldR c 151 OUT ∗ heldR c 152 OUT ∗ heldR c 153 OUT)
      ∗ bigSep (Finset.range 144) (fun b => heldR c (Ring.bk 154 b) OUT))
    ⊢ (bigSep (Finset.range 154) (fun b => heldR c (Ring.bk 154 b) OUT) : sProp 𝕄) := by
  rw [range_last 153, range_last 152, range_last 151, range_last 150, range_last 149, range_last 148, range_last 147, range_last 146, range_last 145, range_last 144]
  iintro ⟨⟨H0, H1, H2, H3, H4, H5, H6, H7, H8, H9⟩, H⟩
  isplitl [H9]; · iexact H9
  isplitl [H8]; · iexact H8
  isplitl [H7]; · iexact H7
  isplitl [H6]; · iexact H6
  isplitl [H5]; · iexact H5
  isplitl [H4]; · iexact H4
  isplitl [H3]; · iexact H3
  isplitl [H2]; · iexact H2
  isplitl [H1]; · iexact H1
  isplitl [H0]; · iexact H0
  iexact H

/-- The blocks done, stated over the HBM operands. -/
theorem done_copies (fa : Buf (Elt F) (a.view.loc (c : Thread nD τ))) (fp : Buf (Elt F) (p.view.loc (c : Thread nD τ))) :
    bigSep (Finset.range 144) (doneAt c a p XE (a.view.writes (Elt F) fa [⟨Rect.whole S77x1024, ReadAs.same.apply (t.view.read (Elt F) XTH)⟩])
      (p.view.writes (Elt F) fp [⟨Rect.whole S1x1x768, ReadAs.same.apply (q.view.read (Elt F) XPH)⟩]))
    ⊢ (bigSep (Finset.range 144) (fun b => heldR c (Ring.bk 154 b) (outH c t q XE XTH XPH)) : sProp 𝕄) :=
  entails_of_eq (congrArg (bigSep (Finset.range 144)) (funext fun b => by unfold doneAt; rw [outBuf_copies]))

/-- A block landed by the last transfers, stated over the HBM operands. -/
theorem landed_copies (fa : Buf (Elt F) (a.view.loc (c : Thread nD τ))) (fp : Buf (Elt F) (p.view.loc (c : Thread nD τ)))
    (b : Fin 154) (s : Fin 10) (g : Buf (Elt F) ((slO s).view.loc (c : Thread nD τ)))
    (h : (slO s).view.read (Elt F) g = fun x => outBuf c a p XE
      (a.view.writes (Elt F) fa [⟨Rect.whole S77x1024, ReadAs.same.apply (t.view.read (Elt F) XTH)⟩])
      (p.view.writes (Elt F) fp [⟨Rect.whole S1x1x768, ReadAs.same.apply (q.view.read (Elt F) XPH)⟩]) (blkIdx b x)) :
    (heldR c b ((blkR b).view.writes (Elt F) XR [⟨Rect.whole S1x512x768, ReadAs.same.apply ((slO s).view.read (Elt F) g)⟩]) : sProp 𝕄)
      = heldR c b (outH c t q XE XTH XPH) :=
  landed_out c XR b s g _ (h.trans (by rw [outBuf_copies]))

/-- The slots of a ring and their semaphores, all free. -/
abbrev allFree (P : Fin 10 → sProp 𝕄) : sProp 𝕄 := iprop(P 0 ∗ P 1 ∗ P 2 ∗ P 3 ∗ P 4 ∗ P 5 ∗ P 6 ∗ P 7 ∗ P 8 ∗ P 9)

attribute [local irreducible] stage

set_option backward.proofsInPublic true in
/-- The body: the two small operands and the first ten blocks fetched, the loop, the last ten blocks' transfers waited for. -/
theorem bodyRun (Q : PUnit → sProp 𝕄) :
    iprop((copies c t q XTH XPH ∗ scratch c a p
      ∗ (homeE c XE 0 ∗ homeE c XE 1 ∗ homeE c XE 2 ∗ homeE c XE 3 ∗ homeE c XE 4 ∗ homeE c XE 5 ∗ homeE c XE 6 ∗ homeE c XE 7 ∗ homeE c XE 8 ∗ homeE c XE 9)
      ∗ bigSep (Finset.Ico 10 154) (textAt c XE) ∗ allFree (freeI c) ∗ allFree (freeO c) ∗ bigSep (Finset.Ico 0 154) (todoAt c XR))
      ∗ ((copies c t q XTH XPH ∗ scratch c a p ∗ bigSep (Finset.range 154) (textAt c XE) ∗ allFree (freeI c) ∗ allFree (freeO c)
          ∗ bigSep (Finset.range 154) (fun b => heldR c (Ring.bk 154 b) (outH c t q XE XTH XPH))) -∗ Q ⟨⟩))
      ⊢ wp frame (wpE (defs₀ (F := F)) 𝒱₀ (c : Thread nD τ) none) Set.univ (bodyG t ht q hq a ha p hp) Q := by
  iintro ⟨⟨⟨Ht, Hq, Hs4, Hs5⟩, ⟨⟨%W, HW⟩, ⟨%fa, Ha⟩, ⟨%fp, Hp⟩⟩, ⟨E0, E1, E2, E3, E4, E5, E6, E7, E8, E9⟩, HE,
    ⟨⟨C0, %f0, I0⟩, ⟨C1, %f1, I1⟩, ⟨C2, %f2, I2⟩, ⟨C3, %f3, I3⟩, ⟨C4, %f4, I4⟩, ⟨C5, %f5, I5⟩, ⟨C6, %f6, I6⟩, ⟨C7, %f7, I7⟩, ⟨C8, %f8, I8⟩, ⟨C9, %f9, I9⟩⟩,
    HO, HR⟩, Hk⟩
  sl_exec
  ihave HS := (stage_start c a p XE XR (a.view.writes (Elt F) a.view.junk [⟨Rect.whole S77x1024, ReadAs.same.apply (t.view.read (Elt F) XTH)⟩])
      (p.view.writes (Elt F) p.view.junk [⟨Rect.whole S1x1x768, ReadAs.same.apply (q.view.read (Elt F) XPH)⟩])) $$ [HW Ha Hp HE C0 C1 C2 C3 C4 C5 C6 C7 C8 C9 HO HR]
  · isplitl [HW Ha Hp]
    · isplitl [HW]; · iexists _; iexact HW
      isplitl [Ha]; · iexact Ha
      iexact Hp
    isplitl [HE]; · iexact HE
    isplitl [C0 C1 C2 C3 C4 C5 C6 C7 C8 C9]
    · isplitl [C0]; · iexists _; iexact C0
      isplitl [C1]; · iexists _; iexact C1
      isplitl [C2]; · iexists _; iexact C2
      isplitl [C3]; · iexists _; iexact C3
      isplitl [C4]; · iexists _; iexact C4
      isplitl [C5]; · iexists _; iexact C5
      isplitl [C6]; · iexists _; iexact C6
      isplitl [C7]; · iexists _; iexact C7
      isplitl [C8]; · iexists _; iexact C8
      iexists _; iexact C9
    isplitl [HO]; · iexact HO
    iexact HR
  sl_exec
  ihave HS := (stage_end c a p XE XR _ _ _ trips_eq) $$ HS
  icases HS with ⟨⟨⟨%W1, HW⟩, Ha, Hp⟩, HE, HI, ⟨⟨%g4, G4, %h4⟩, ⟨%g5, G5, %h5⟩, ⟨%g6, G6, %h6⟩, ⟨%g7, G7, %h7⟩, ⟨%g8, G8, %h8⟩, ⟨%g9, G9, %h9⟩, ⟨%g0, G0, %h0⟩, ⟨%g1, G1, %h1⟩, ⟨%g2, G2, %h2⟩, ⟨%g3, G3, %h3⟩⟩, HD⟩
  sl_exec
  ihave HD := (done_copies c t q a p XE XTH XPH _ _) $$ HD
  icases HI with ⟨I4, I5, I6, I7, I8, I9, I0, I1, I2, I3⟩
  irw [wp_ret]; imodintro
  iapply Hk
  isplitl [Ht Hq Hs4 Hs5]
  · isplitl [Ht]; · iexact Ht
    isplitl [Hq]; · iexact Hq
    isplitl [Hs4]; · iexact Hs4
    iexact Hs5
  isplitl [HW Ha Hp]
  · isplitl [HW]; · iexists _; iexact HW
    isplitl [Ha]; · iexists _; iexact Ha
    iexists _; iexact Hp
  isplitl [HE]; · iexact HE
  isplitl [I0 I1 I2 I3 I4 I5 I6 I7 I8 I9]
  · isplitl [I0]; · iexact I0
    isplitl [I1]; · iexact I1
    isplitl [I2]; · iexact I2
    isplitl [I3]; · iexact I3
    isplitl [I4]; · iexact I4
    isplitl [I5]; · iexact I5
    isplitl [I6]; · iexact I6
    isplitl [I7]; · iexact I7
    isplitl [I8]; · iexact I8
    iexact I9
  isplitl [G0 G1 G2 G3 G4 G5 G6 G7 G8 G9 G0_src G1_src G2_src G3_src G4_src G5_src G6_src G7_src G8_src G9_src]
  · isplitl [G0 G0_src]; · isplitl [G0]; · iexact G0
                           iexists _; iexact G0_src
    isplitl [G1 G1_src]; · isplitl [G1]; · iexact G1
                           iexists _; iexact G1_src
    isplitl [G2 G2_src]; · isplitl [G2]; · iexact G2
                           iexists _; iexact G2_src
    isplitl [G3 G3_src]; · isplitl [G3]; · iexact G3
                           iexists _; iexact G3_src
    isplitl [G4 G4_src]; · isplitl [G4]; · iexact G4
                           iexists _; iexact G4_src
    isplitl [G5 G5_src]; · isplitl [G5]; · iexact G5
                           iexists _; iexact G5_src
    isplitl [G6 G6_src]; · isplitl [G6]; · iexact G6
                           iexists _; iexact G6_src
    isplitl [G7 G7_src]; · isplitl [G7]; · iexact G7
                           iexists _; iexact G7_src
    isplitl [G8 G8_src]; · isplitl [G8]; · iexact G8
                           iexists _; iexact G8_src
    isplitl [G9]; · iexact G9
    iexists _; iexact G9_src
  iapply (done_all c (outH c t q XE XTH XPH))
  isplitr [HD]
  · isplitl [G4_dst]; · irw [← landed_copies c t q a p XE XTH XPH XR _ _ _ _ _ h4]; iexact G4_dst
    isplitl [G5_dst]; · irw [← landed_copies c t q a p XE XTH XPH XR _ _ _ _ _ h5]; iexact G5_dst
    isplitl [G6_dst]; · irw [← landed_copies c t q a p XE XTH XPH XR _ _ _ _ _ h6]; iexact G6_dst
    isplitl [G7_dst]; · irw [← landed_copies c t q a p XE XTH XPH XR _ _ _ _ _ h7]; iexact G7_dst
    isplitl [G8_dst]; · irw [← landed_copies c t q a p XE XTH XPH XR _ _ _ _ _ h8]; iexact G8_dst
    isplitl [G9_dst]; · irw [← landed_copies c t q a p XE XTH XPH XR _ _ _ _ _ h9]; iexact G9_dst
    isplitl [G0_dst]; · irw [← landed_copies c t q a p XE XTH XPH XR _ _ _ _ _ h0]; iexact G0_dst
    isplitl [G1_dst]; · irw [← landed_copies c t q a p XE XTH XPH XR _ _ _ _ _ h1]; iexact G1_dst
    isplitl [G2_dst]; · irw [← landed_copies c t q a p XE XTH XPH XR _ _ _ _ _ h2]; iexact G2_dst
    irw [← landed_copies c t q a p XE XTH XPH XR _ _ _ _ _ h3]; iexact G3_dst
  iexact HD

end Cert.KernelIdeal.Stream
-- ==== Proof.Split.lean ====
/-
  The whole buffers cut into the pieces the body works on: the two HBM arrays into their 154 blocks, the two rings into their
  ten slots.
-/
module

public import proofs.«01_k».proof.Proof.Body

@[expose] public section

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The element sets -/

/-- The elements of block `b` of a transposed array. -/
abbrev blkSet (b : Fin 154) : Finset S77x1024x768.Idx := (Rect.unit (s := S77x1024x768) (blkOff b) S1x512x768.size (blkOff_inb b)).set
/-- The elements of slot `s` of a ring. -/
abbrev slotSet (s : Fin 10) : Finset S10x1x512x768.Idx := (Rect.unit (s := S10x1x512x768) (slotOff s) S1x1x512x768.size (slotOff_inb s)).set

/-- A block's elements are one row's, in one half of the columns. -/
theorem mem_blkSet (b : Fin 154) (i : S77x1024x768.Idx) : i ∈ blkSet b ↔ (i 0).val = b.val / 2 ∧ (i 1).val / 512 = b.val % 2 := by
  unfold blkSet
  rw [Rect.mem_set_unit]
  have h0 : (i 0).val < 77 := (i 0).isLt
  have h1 : (i 1).val < 1024 := (i 1).isLt
  have h2 : (i 2).val < 768 := (i 2).isLt
  constructor
  · intro h
    have a0 : b.val / 2 ≤ (i 0).val ∧ (i 0).val < b.val / 2 + 1 := h 0
    have a1 : b.val % 2 * 512 ≤ (i 1).val ∧ (i 1).val < b.val % 2 * 512 + 512 := h 1
    omega
  · rintro ⟨a0, a1⟩ x
    fin_cases x
    · show b.val / 2 ≤ (i 0).val ∧ (i 0).val < b.val / 2 + 1; omega
    · show b.val % 2 * 512 ≤ (i 1).val ∧ (i 1).val < b.val % 2 * 512 + 512; omega
    · show 0 ≤ (i 2).val ∧ (i 2).val < 0 + 768; omega

/-- A slot's elements are those its number leads. -/
theorem mem_slotSet (s : Fin 10) (i : S10x1x512x768.Idx) : i ∈ slotSet s ↔ (i 0).val = s.val := by
  unfold slotSet
  rw [Rect.mem_set_unit]
  have h0 : (i 0).val < 10 := (i 0).isLt
  have h1 : (i 1).val < 1 := (i 1).isLt
  have h2 : (i 2).val < 512 := (i 2).isLt
  have h3 : (i 3).val < 768 := (i 3).isLt
  constructor
  · intro h
    have a0 : s.val ≤ (i 0).val ∧ (i 0).val < s.val + 1 := h 0
    omega
  · intro a0 x
    fin_cases x
    · show s.val ≤ (i 0).val ∧ (i 0).val < s.val + 1; omega
    · show 0 ≤ (i 1).val ∧ (i 1).val < 0 + 1; omega
    · show 0 ≤ (i 2).val ∧ (i 2).val < 0 + 512; omega
    · show 0 ≤ (i 3).val ∧ (i 3).val < 0 + 768; omega

/-- Two blocks share no element. -/
theorem blk_disj (b b' : Fin 154) (h : b ≠ b') : Disjoint (blkSet b) (blkSet b') := by
  rw [Finset.disjoint_left]
  intro i hi hi'
  have e := (mem_blkSet b i).1 hi
  have e' := (mem_blkSet b' i).1 hi'
  exact h (Fin.ext (by omega))

/-- Every element lies in a block. -/
theorem blk_cover : Finset.univ.biUnion blkSet = Finset.univ := by
  refine Finset.eq_univ_iff_forall.2 fun i => Finset.mem_biUnion.2 ?_
  have h0 : (i 0).val < 77 := (i 0).isLt
  have h1 : (i 1).val < 1024 := (i 1).isLt
  exact ⟨⟨(i 0).val * 2 + (i 1).val / 512, by omega⟩, Finset.mem_univ _, (mem_blkSet _ i).2 ⟨by dsimp only; omega, by dsimp only; omega⟩⟩

/-- Two slots share no element. -/
theorem slot_disj (s s' : Fin 10) (h : s ≠ s') : Disjoint (slotSet s) (slotSet s') := by
  rw [Finset.disjoint_left]
  intro i hi hi'
  exact h (Fin.ext (((mem_slotSet s i).1 hi).symm.trans ((mem_slotSet s' i).1 hi')))

/-- Every element lies in a slot. -/
theorem slot_cover : Finset.univ.biUnion slotSet = Finset.univ := by
  refine Finset.eq_univ_iff_forall.2 fun i => Finset.mem_biUnion.2 ?_
  exact ⟨⟨(i 0).val, (i 0).isLt⟩, Finset.mem_univ _, (mem_slotSet _ i).2 rfl⟩

theorem blkE_set (b : Fin 154) : (blkE b).view.set = blkSet b := View.set_slice_whole _ _
theorem blkR_set (b : Fin 154) : (blkR b).view.set = blkSet b := View.set_slice_whole _ _
theorem slI_set (s : Fin 10) : (slI s).view.set = slotSet s := (View.set_reshape _ _).trans (View.set_slice_whole _ _)
theorem slO_set (s : Fin 10) : (slO s).view.set = slotSet s := (View.set_reshape _ _).trans (View.set_slice_whole _ _)

/-! ## The cuts -/

variable (c : Dev nD)

/-- The embedded text is its blocks. -/
theorem split_text (XE : Buf (Elt F) (embH.view.loc (c : Thread nD τ))) :
    (((c : Thread nD τ).loc main_call0_v0) ↦{fullShare} XE : sProp 𝕄) = bigSep (Finset.range 154) (textAt c XE) := by
  rw [Ring.pointsTo_blocks (ℓ := (c : Thread nD τ).loc main_call0_v0) blkSet blk_disj blk_cover XE]
  refine Ring.bigSep_fin_eq_range 154 _ _ fun b hb => ?_
  have e : Ring.bk 154 b = ⟨b, hb⟩ := Fin.ext (Ring.bk_val hb)
  unfold textAt homeE
  rw [blkE_set, e]; rfl

/-- The result is its blocks. -/
theorem split_res (XR : Buf (Elt F) (resH.view.loc (c : Thread nD τ))) :
    (((c : Thread nD τ).loc main_call0_v3) ↦{fullShare} XR : sProp 𝕄) = bigSep (Finset.range 154) (fun b => heldR c (Ring.bk 154 b) XR) := by
  rw [Ring.pointsTo_blocks (ℓ := (c : Thread nD τ).loc main_call0_v3) blkSet blk_disj blk_cover XR]
  refine Ring.bigSep_fin_eq_range 154 _ _ fun b hb => ?_
  have e : Ring.bk 154 b = ⟨b, hb⟩ := Fin.ext (Ring.bk_val hb)
  unfold heldR
  rw [blkR_set, e]; rfl

/-- Ten members, one by one. -/
theorem fin_ten (Φ : Fin 10 → sProp 𝕄) : bigSep Finset.univ Φ = allFree Φ := by
  rw [BI.bigSep_eq_bigSepL_of_eq [0, 1, 2, 3, 4, 5, 6, 7, 8, 9] (by decide) (by decide)]; rfl

/-- The input ring, holding anything, gives its ten slots, holding anything. -/
theorem split_ringI : iprop(∃ f : Buf (Elt F) ((c : Thread nD τ).loc cc0_scratch2), ((c : Thread nD τ).loc cc0_scratch2) ↦{fullShare} f)
    ⊢ (bigSep Finset.univ (fun s => iprop(∃ f, heldI (F := F) c s f)) : sProp 𝕄) := by
  iintro ⟨%f, H⟩
  have h : ∀ s ∈ (Finset.univ : Finset (Fin 10)), (((c : Thread nD τ).loc cc0_scratch2) ↦[slotSet s]{fullShare} f : sProp 𝕄) ⊢ iprop(∃ f, heldI (F := F) c s f) := by
    intro s _
    iintro H
    iexists f
    unfold heldI
    irw [slI_set]
    iexact H
  iapply ((entails_of_eq (Ring.pointsTo_blocks (ℓ := (c : Thread nD τ).loc cc0_scratch2) slotSet slot_disj slot_cover f)).trans (bigSep_mono h))
  iexact H

/-- The ten slots of the input ring, holding anything, give the ring, holding something. -/
theorem join_ringI : (bigSep Finset.univ (fun s => iprop(∃ f, heldI (F := F) c s f)) : sProp 𝕄)
    ⊢ iprop(∃ f : Buf (Elt F) ((c : Thread nD τ).loc cc0_scratch2), ((c : Thread nD τ).loc cc0_scratch2) ↦{fullShare} f) := by
  refine (bigSep_mono (Ψ := fun s => iprop(∃ f : Buf (Elt F) ((c : Thread nD τ).loc cc0_scratch2), ((c : Thread nD τ).loc cc0_scratch2) ↦[slotSet s]{fullShare} f))
    fun s _ => ?_).trans (Ring.pointsTo_blocks_join_exists (ℓ := (c : Thread nD τ).loc cc0_scratch2) slotSet slot_disj slot_cover (Memref.whole cc0_scratch2).view.junk)
  unfold heldI; rw [slI_set]; exact Entails.refl _

/-- The input ring's free slots are their semaphores and what the slots hold. -/
theorem freeI_eq : (allFree (freeI (F := F) c) : sProp 𝕄) = iprop(allFree (cellI (F := F) c) ∗ bigSep Finset.univ (fun s => iprop(∃ f, heldI (F := F) c s f))) := by
  rw [← fin_ten, ← fin_ten]; exact bigSep_sep _ _ _

/-- The output ring, holding anything, gives its ten slots, holding anything. -/
theorem split_ringO : iprop(∃ f : Buf (Elt F) ((c : Thread nD τ).loc cc0_scratch3), ((c : Thread nD τ).loc cc0_scratch3) ↦{fullShare} f)
    ⊢ (bigSep Finset.univ (fun s => iprop(∃ f, heldO (F := F) c s f)) : sProp 𝕄) := by
  iintro ⟨%f, H⟩
  have h : ∀ s ∈ (Finset.univ : Finset (Fin 10)), (((c : Thread nD τ).loc cc0_scratch3) ↦[slotSet s]{fullShare} f : sProp 𝕄) ⊢ iprop(∃ f, heldO (F := F) c s f) := by
    intro s _
    iintro H
    iexists f
    unfold heldO
    irw [slO_set]
    iexact H
  iapply ((entails_of_eq (Ring.pointsTo_blocks (ℓ := (c : Thread nD τ).loc cc0_scratch3) slotSet slot_disj slot_cover f)).trans (bigSep_mono h))
  iexact H

/-- The ten slots of the output ring, holding anything, give the ring, holding something. -/
theorem join_ringO : (bigSep Finset.univ (fun s => iprop(∃ f, heldO (F := F) c s f)) : sProp 𝕄)
    ⊢ iprop(∃ f : Buf (Elt F) ((c : Thread nD τ).loc cc0_scratch3), ((c : Thread nD τ).loc cc0_scratch3) ↦{fullShare} f) := by
  refine (bigSep_mono (Ψ := fun s => iprop(∃ f : Buf (Elt F) ((c : Thread nD τ).loc cc0_scratch3), ((c : Thread nD τ).loc cc0_scratch3) ↦[slotSet s]{fullShare} f))
    fun s _ => ?_).trans (Ring.pointsTo_blocks_join_exists (ℓ := (c : Thread nD τ).loc cc0_scratch3) slotSet slot_disj slot_cover (Memref.whole cc0_scratch3).view.junk)
  unfold heldO; rw [slO_set]; exact Entails.refl _

/-- The output ring's free slots are their semaphores and what the slots hold. -/
theorem freeO_eq : (allFree (freeO (F := F) c) : sProp 𝕄) = iprop(allFree (cellO (F := F) c) ∗ bigSep Finset.univ (fun s => iprop(∃ f, heldO (F := F) c s f))) := by
  rw [← fin_ten, ← fin_ten]; exact bigSep_sep _ _ _

end Cert.KernelIdeal.Stream
-- ==== Proof.Entry.lean ====
/-
  The kernel's region: the buffers the launch hands over, the body run on them, and what it leaves.
-/
module

public import proofs.«01_k».proof.Proof.Split
public import proofs.«01_k».proof.Proof.Gen.KernelIdeal.Frame

@[expose] public section

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the body's transfers use -/

/-- The body's own semaphores. -/
abbrev osem0 : Fin 22 → SemLoc sig := fun j => (![SemLoc.dma 0, SemLoc.dma 1, SemLoc.dma 2, SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21] : Fin 22 → SemLoc sig) j
theorem ownSemFacts0 : Pipeline.OwnSemFacts (cfg0.spec) osem0 := by decide
/-- The operands left in HBM that the body reads. -/
def H0 : Finset (Ref sig .tc) := {main_call0_v0, main_call0_v1, main_call0_v2}
/-- The result left in HBM that the body writes. -/
def R0 : Finset (Ref sig .tc) := {main_call0_v3}
theorem H0_sub : H0 ⊆ Pipeline.restRefs sig (cfg0.spec) := by decide
theorem R0_sub : R0 ⊆ Pipeline.restRefs sig (cfg0.spec) \ H0 := by decide

/-- The body's semaphores at zero, one by one. -/
theorem ownSems_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), osem0 0) 0
      ∗ semVal ((c : Thread nD τ), osem0 1) 0
      ∗ semVal ((c : Thread nD τ), osem0 2) 0
      ∗ semVal ((c : Thread nD τ), osem0 3) 0
      ∗ semVal ((c : Thread nD τ), osem0 4) 0
      ∗ semVal ((c : Thread nD τ), osem0 5) 0
      ∗ semVal ((c : Thread nD τ), osem0 6) 0
      ∗ semVal ((c : Thread nD τ), osem0 7) 0
      ∗ semVal ((c : Thread nD τ), osem0 8) 0
      ∗ semVal ((c : Thread nD τ), osem0 9) 0
      ∗ semVal ((c : Thread nD τ), osem0 10) 0
      ∗ semVal ((c : Thread nD τ), osem0 11) 0
      ∗ semVal ((c : Thread nD τ), osem0 12) 0
      ∗ semVal ((c : Thread nD τ), osem0 13) 0
      ∗ semVal ((c : Thread nD τ), osem0 14) 0
      ∗ semVal ((c : Thread nD τ), osem0 15) 0
      ∗ semVal ((c : Thread nD τ), osem0 16) 0
      ∗ semVal ((c : Thread nD τ), osem0 17) 0
      ∗ semVal ((c : Thread nD τ), osem0 18) 0
      ∗ semVal ((c : Thread nD τ), osem0 19) 0
      ∗ semVal ((c : Thread nD τ), osem0 20) 0
      ∗ semVal ((c : Thread nD τ), osem0 21) 0) := by
  rw [Pipeline.ownSems0_eq_of_list c osem0 [0, 1, 2, 3, 4, 5, 6, 7, 8, 9, 10, 11, 12, 13, 14, 15, 16, 17, 18, 19, 20, 21] (by decide) (by decide)]; rfl

/-- The semaphores at zero: those of the two whole copies, the input ring's, the output ring's. -/
theorem ownSems_split (c : Dev nD) :
    (Pipeline.ownSems0 (Ix := Unit) (Name := ℕ) (U := Pipeline.UD sig nD τ) (Lvl := ℕ) (Val := Elt F) (τ := τ) osem0 c : sProp 𝕄)
      ⊢ iprop(semVal ((c : Thread nD τ), SemLoc.dma cc0_scratch4.sem) 0 ∗ semVal ((c : Thread nD τ), SemLoc.dma cc0_scratch5.sem) 0
          ∗ allFree (cellI (F := F) c) ∗ allFree (cellO (F := F) c)) := by
  rw [ownSems_eq]
  iintro ⟨S0, S1, S2, S3, S4, S5, S6, S7, S8, S9, S10, S11, S12, S13, S14, S15, S16, S17, S18, S19, S20, S21⟩
  isplitl [S0]; · iexact S0
  isplitl [S1]; · iexact S1
  isplitl [S2 S3 S4 S5 S6 S7 S8 S9 S10 S11]
  · isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  iexact S21

/-- And back. -/
theorem ownSems_join (c : Dev nD) :
    iprop(semVal ((c : Thread nD τ), SemLoc.dma cc0_scratch4.sem) 0 ∗ semVal ((c : Thread nD τ), SemLoc.dma cc0_scratch5.sem) 0
          ∗ allFree (cellI (F := F) c) ∗ allFree (cellO (F := F) c))
      ⊢ (Pipeline.ownSems0 (Ix := Unit) (Name := ℕ) (U := Pipeline.UD sig nD τ) (Lvl := ℕ) (Val := Elt F) (τ := τ) osem0 c : sProp 𝕄) := by
  rw [ownSems_eq]
  iintro ⟨S0, S1, ⟨S2, S3, S4, S5, S6, S7, S8, S9, S10, S11⟩, ⟨S12, S13, S14, S15, S16, S17, S18, S19, S20, S21⟩⟩
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  isplitl [S10]; · iexact S10
  isplitl [S11]; · iexact S11
  isplitl [S12]; · iexact S12
  isplitl [S13]; · iexact S13
  isplitl [S14]; · iexact S14
  isplitl [S15]; · iexact S15
  isplitl [S16]; · iexact S16
  isplitl [S17]; · iexact S17
  isplitl [S18]; · iexact S18
  isplitl [S19]; · iexact S19
  isplitl [S20]; · iexact S20
  iexact S21

/-! ## The invariant -/

/-- The result the region leaves, transposed. -/
def OUT (c : Dev nD) : Buf (Elt F) ((c : Thread nD τ).loc main_call0_v3) :=
  outH c tokH phH (V m c main_call0_v0) (V m c main_call0_v1) (V m c main_call0_v2)

/-- The buffers as the region leaves them: the result at `OUT`, the rest as the region finds them. -/
def G (c : Dev nD) (b : Ref sig .tc) : Buf (Elt F) ((c : Thread nD τ).loc b) := Function.update (V m c) main_call0_v3 (OUT m c) b

theorem G_res (c : Dev nD) : G m c main_call0_v3 = OUT m c := Function.update_self ..

/-- What the region holds, the result at `g`. -/
theorem held_eq (g : (c : Dev nD) → (b : Ref sig .tc) → Buf (Elt F) ((c : Thread nD τ).loc b)) (c : Dev nD) :
    (Pipeline.ΦDRV osem0 (cfg0.spec) H0 R0 (V m) g c : sProp 𝕄)
      = iprop(((∃ f : Buf (Elt F) ((c : Thread nD τ).loc cc0_scratch0), ((c : Thread nD τ).loc cc0_scratch0) ↦{fullShare} f)
            ∗ (∃ f : Buf (Elt F) ((c : Thread nD τ).loc cc0_scratch1), ((c : Thread nD τ).loc cc0_scratch1) ↦{fullShare} f)
            ∗ (∃ f : Buf (Elt F) ((c : Thread nD τ).loc cc0_scratch2), ((c : Thread nD τ).loc cc0_scratch2) ↦{fullShare} f)
            ∗ (∃ f : Buf (Elt F) ((c : Thread nD τ).loc cc0_scratch3), ((c : Thread nD τ).loc cc0_scratch3) ↦{fullShare} f))
          ∗ Pipeline.ownSems0 (Ix := Unit) (Name := ℕ) (U := Pipeline.UD sig nD τ) (Lvl := ℕ) (Val := Elt F) (τ := τ) osem0 c
          ∗ ((((c : Thread nD τ).loc main_call0_v0) ↦{fullShare} V m c main_call0_v0)
            ∗ (((c : Thread nD τ).loc main_call0_v1) ↦{fullShare} V m c main_call0_v1)
            ∗ (((c : Thread nD τ).loc main_call0_v2) ↦{fullShare} V m c main_call0_v2))
          ∗ (((c : Thread nD τ).loc main_call0_v3) ↦{fullShare} g c main_call0_v3)) := by
  unfold Pipeline.ΦDRV
  rw [scopedRest0_eq, BI.bigSep_eq_bigSepL_of_eq (S := H0) [main_call0_v0, main_call0_v1, main_call0_v2] (by decide) (by decide),
    BI.bigSep_eq_bigSepL_of_eq (S := R0) [main_call0_v3] (by decide) (by decide)]
  rfl

/-- A whole buffer's points-to, over the whole view's elements. -/
theorem held_whole (c : Dev nD) (b : Ref sig .tc) (f : Buf (Elt F) ((c : Thread nD τ).loc b)) :
    (((c : Thread nD τ).loc b) ↦{fullShare} f : sProp 𝕄)
      = ((View.whole b : View sig .tc _ _ _).loc (c : Thread nD τ) ↦[(View.whole b : View sig .tc _ _ _).set]{fullShare} f) := by
  rw [View.set_whole]

/-! ## The body run on it -/

/-- The text's blocks: the first ten, the rest. -/
theorem text_first (c : Dev nD) (XE : Buf (Elt F) (embH.view.loc (c : Thread nD τ))) :
    (bigSep (Finset.range 154) (textAt c XE) : sProp 𝕄)
      ⊢ iprop((homeE c XE 0 ∗ homeE c XE 1 ∗ homeE c XE 2 ∗ homeE c XE 3 ∗ homeE c XE 4 ∗ homeE c XE 5 ∗ homeE c XE 6 ∗ homeE c XE 7 ∗ homeE c XE 8 ∗ homeE c XE 9)
        ∗ bigSep (Finset.Ico 10 154) (textAt c XE)) := by
  rw [Finset.range_eq_Ico, run_head (show 0 < 154 by omega), run_head (show 0 + 1 < 154 by omega), run_head (show 0 + 1 + 1 < 154 by omega),
    run_head (show 0 + 1 + 1 + 1 < 154 by omega), run_head (show 0 + 1 + 1 + 1 + 1 < 154 by omega), run_head (show 0 + 1 + 1 + 1 + 1 + 1 < 154 by omega),
    run_head (show 0 + 1 + 1 + 1 + 1 + 1 + 1 < 154 by omega), run_head (show 0 + 1 + 1 + 1 + 1 + 1 + 1 + 1 < 154 by omega),
    run_head (show 0 + 1 + 1 + 1 + 1 + 1 + 1 + 1 + 1 < 154 by omega), run_head (show 0 + 1 + 1 + 1 + 1 + 1 + 1 + 1 + 1 + 1 < 154 by omega)]
  iintro ⟨E0, E1, E2, E3, E4, E5, E6, E7, E8, E9, HE⟩
  isplitl [E0 E1 E2 E3 E4 E5 E6 E7 E8 E9]
  · isplitl [E0]; · iexact E0
    isplitl [E1]; · iexact E1
    isplitl [E2]; · iexact E2
    isplitl [E3]; · iexact E3
    isplitl [E4]; · iexact E4
    isplitl [E5]; · iexact E5
    isplitl [E6]; · iexact E6
    isplitl [E7]; · iexact E7
    isplitl [E8]; · iexact E8
    iexact E9
  iexact HE

/-- The body takes the region's buffers to the same with the result written. -/
theorem body_run (c : Dev nD) (W : Waits sig Unit) (Q : PUnit → sProp 𝕄) :
    iprop((Pipeline.ΦDRV osem0 (cfg0.spec) H0 R0 (V m) (V m) c ∗ owes (c : Thread nD τ) 0 W)
      ∗ ((Pipeline.ΦDRV osem0 (cfg0.spec) H0 R0 (V m) (G m) c ∗ ∃ W, owes (c : Thread nD τ) 0 W) -∗ Q ⟨⟩))
      ⊢ wp frame (wpE (defs₀ (F := F)) 𝒱₀ (c : Thread nD τ) none) Set.univ
          (bodyG tokH (Memref.isWhole_whole _) phH (Memref.isWhole_whole _) tokV (Memref.isWhole_whole _) phV (Memref.isWhole_whole _)) Q := by
  rw [held_eq, held_eq, G_res, split_text, split_res, split_res]
  iintro ⟨⟨⟨⟨⟨%f0, B0⟩, ⟨%f1, B1⟩, B2, B3⟩, HS, ⟨HE, HT, HP⟩, HR⟩, HW⟩, Hk⟩
  ihave HS := (ownSems_split (F := F) c) $$ HS
  icases HS with ⟨S0, S1, SI, SO⟩
  ihave B2 := (split_ringI (F := F) c) $$ B2
  ihave B3 := (split_ringO (F := F) c) $$ B3
  ihave HT := (entails_of_eq (held_whole (F := F) c main_call0_v1 _)) $$ HT
  ihave HP := (entails_of_eq (held_whole (F := F) c main_call0_v2 _)) $$ HP
  ihave B0 := (entails_of_eq (held_whole (F := F) c cc0_scratch0 _)) $$ B0
  ihave B1 := (entails_of_eq (held_whole (F := F) c cc0_scratch1 _)) $$ B1
  ihave HE := (text_first (F := F) c (V m c main_call0_v0)) $$ HE
  icases HE with ⟨HE, HE'⟩
  iapply (bodyRun (F := F) c tokH (Memref.isWhole_whole _) phH (Memref.isWhole_whole _) tokV (Memref.isWhole_whole _) phV (Memref.isWhole_whole _)
    (V m c main_call0_v0) (V m c main_call0_v1) (V m c main_call0_v2) (V m c main_call0_v3) Q)
  isplitr [Hk]
  · isplitl [HT HP S0 S1]
    · isplitl [HT]; · iexact HT
      isplitl [HP]; · iexact HP
      isplitl [S0]; · iexact S0
      iexact S1
    isplitl [HW B0 B1]
    · isplitl [HW]; · iexists _; iexact HW
      isplitl [B0]; · iexists _; iexact B0
      iexists _; iexact B1
    isplitl [HE]; · iexact HE
    isplitl [HE']; · iexact HE'
    isplitl [SI B2]
    · irw [freeI_eq]; isplitl [SI]; · iexact SI
      iexact B2
    isplitl [SO B3]
    · irw [freeO_eq]; isplitl [SO]; · iexact SO
      iexact B3
    irw [← Finset.range_eq_Ico]; iexact HR
  irw [freeI_eq, freeO_eq]
  iintro ⟨⟨HT, HP, S0, S1⟩, ⟨HW, ⟨%g0, B0⟩, ⟨%g1, B1⟩⟩, HE, ⟨SI, B2⟩, ⟨SO, B3⟩, HR⟩
  iapply Hk
  ihave B2 := (join_ringI (F := F) c) $$ B2
  ihave B3 := (join_ringO (F := F) c) $$ B3
  ihave HS := (ownSems_join (F := F) c) $$ [S0 S1 SI SO]
  · isplitl [S0]; · iexact S0
    isplitl [S1]; · iexact S1
    isplitl [SI]; · iexact SI
    iexact SO
  isplitr [HW]
  · isplitl [B0 B1 B2 B3]
    · isplitl [B0]; · iexists g0; irw [held_whole]; iexact B0
      isplitl [B1]; · iexists g1; irw [held_whole]; iexact B1
      isplitl [B2]; · iexact B2
      iexact B3
    isplitl [HS]; · iexact HS
    isplitl [HE HT HP]
    · isplitl [HE]; · iexact HE
      isplitl [HT]; · irw [held_whole]; iexact HT
      irw [held_whole]; iexact HP
    iexact HR
  iexact HW

end Cert.KernelIdeal.Stream
-- ==== Proof.Region.lean ====
/-
  The kernel's run: the host lines before the region, the region, the host lines after it.
-/
module

public import proofs.«01_k».proof.Proof.Entry

@[expose] public section

noncomputable section

namespace Cert.KernelIdeal.Stream

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the region holds before the body and after it. -/
def heldAt (c : Dev nD) : ℕ → sProp 𝕄
  | 0 => Pipeline.ΦDRV osem0 (cfg0.spec) H0 R0 (V m) (V m) c
  | _ + 1 => Pipeline.ΦDRV osem0 (cfg0.spec) H0 R0 (V m) (G m) c

/-- The region's proof data: no staged window, nothing owed. -/
def dats (_ : Fin 1) (c : Dev nD) : Dat τ (Elt F) Unit ℕ (Pipeline.UD sig nD τ) ℕ cfg0 c where
  A w := V m c (Pipeline.arrRef (cfg0.spec) w)
  after w t := w.elim0
  Φ t := heldAt m c t.val
  q _ := fullShare
  owed _ := 0

/-- The body's row of the region's table is the kernel. -/
theorem row (t : Fin cfg0.N) : defs₀ (F := F) .tc cfg0.body (cfg0.bodyArgs t (cfg0.slots t)) = bodyAt0 t := by
  unfold defs₀; rw [Defs.onTc_tc]

/-- The region's state before the body, and after it. -/
theorem sound_body (c : Dev nD) (t : Fin cfg0.N) :
    iprop((dats m 0 c).Φ t.castSucc ∗ (dats m 0 c).owesAt () t.castSucc ∗ emp)
      ⊢ wp frame (wpE (defs₀ (F := F)) 𝒱₀ (c : Thread nD τ) none) Set.univ (bodyAt0 (F := F) t)
        (fun _ => iprop((dats m 0 c).Φ t.succ ∗ (dats m 0 c).owesAt () t.succ ∗ emp)) := by
  have h0 : t.val = 0 := congrArg Fin.val (fin_N0 t)
  rw [show (dats m 0 c).Φ t.castSucc = heldAt m c 0 from congrArg (heldAt m c) h0,
    show (dats m 0 c).Φ t.succ = heldAt m c 1 from congrArg (heldAt m c) (show t.succ.val = 1 by rw [Fin.val_succ, h0])]
  unfold Dat.owesAt Pipeline.owesWithin
  rw [show (dats m 0 c).owed t.castSucc = 0 from rfl, show (dats m 0 c).owed t.succ = 0 from rfl]
  dsimp only [heldAt]
  iintro ⟨H, ⟨%W, -, HW⟩, He⟩
  iapply (body_run m c W _)
  isplitl [H HW]
  · isplitl [H]; · iexact H
    iexact HW
  iintro ⟨H, ⟨%W', HW'⟩⟩
  isplitl [H]; · iexact H
  isplitl [HW']
  · iexists W'; isplitr; · ipureintro; exact fun _ _ => Or.inl trivial
    iexact HW'
  iexact He

/-- The body's obligation to the region. -/
theorem body_obligation (c : Dev nD) : BodyObligation (dats (F := F) m 0 c) (defs₀ (F := F)) 𝒱₀ () Set.univ := fun t => by
  rw [row]
  exact triple_restated (sound_body m c t) rfl (Entails.refl _) fun _ => Entails.refl _

/-- The host lines around the region. -/
theorem main_around : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The contents the buffers end at. -/
abbrev final (c : Dev nD) (b : Ref sig .tc) : Buf (Elt F) ((c : Thread nD τ).loc b) :=
  StableHlo.after (List.flatten [hostOps1]) (Pipeline.withArrays (cfg0.spec) c (Pipeline.withR (V0 m c) R0 c (G m c)) fun w => (dats m 0 c).arrAt w cfg0.N) (Proc.devRef .tc b)

set_option backward.isDefEq.respectTransparency.types false in
/-- The kernel runs to its end, with no buffer outside the region's own left at anything but `final`, and every semaphore at zero. -/
theorem run_main : θ_run defs (onTc (τ := τ) (main (F := F))) (s₀ m ρ)
    (fun r => (∀ c : Dev nD, ∀ b ∈ Pipeline.restRefs sig (cfg0.spec), r.2.mem ((c : Thread nD τ).loc b) = final m c b) ∧ r.2.sem = fun _ => 0) :=
  Pipeline.θ_run_frame_dmaR_aroundV (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := main_around m) (hA := fun _ _ => rfl)
    (hin := fun _ => Entails.refl _) (hout := fun _ => Entails.refl _) (hQ' := fun r h => ⟨fun c => (h.1 c).2, h.2⟩)

end Cert.KernelIdeal.Stream
-- ==== Proof.Value.lean ====
/-
  What the kernel's buffers end at: the arguments as launched, the result at the elementwise choice between the placeholder's
  row and the text.
-/
module

public import proofs.«01_k».proof.Proof.Region
public import Idealize.ShloMosaic.Lib.StableHlo.Run
public import Idealize.ShloMosaic.Lib.Pipeline.Value

@[expose] public section

noncomputable section

namespace Cert.KernelIdeal.Stream

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ) (ρ : Dev nD → PrngReg)

/-! ## The buffers the host lines write -/

/-- A buffer the region writes nothing of, and no later line writes, ends as the region finds it. -/
theorem final_of_ne (c : Dev nD) (b : Ref sig .tc) (hb : b ≠ main_v0) (hr : b ∉ R0) : final m c b = V m c b := by
  unfold final
  rw [StableHlo.after_of_forall_not_mem (b := Proc.devRef .tc b) _ _ (List.forall_iff_forall_mem.mp (by
      simp only [hostOps1, List.flatten_cons, List.flatten_nil, List.append_nil, List.cons_append, List.nil_append, List.Forall,
        StableHlo.unary_writes, Finset.mem_singleton]
      exact StableHlo.devRef_ne_of_ne hb)),
    Pipeline.withArrays_of_ne _ c _ _ b (fun w => w.elim0), Pipeline.withR_of_not_mem _ _ _ _ b hr]

/-- The tokens the region finds: the argument's, transposed. -/
theorem V_tok (c : Dev nD) : V m c main_call0_v1
    = (transpose S77x1024 [1, 0] (m ((c : Thread nD τ).loc main_arg0)) transposes_S1024x77_S77x1024_1_0 : S77x1024.Idx → BitVec 32) := by
  show StableHlo.after _ _ _ = _
  simp only [hostOps0, TRef.unary, TRef.reshape, TRef.toBuf, TRef.ofBuf, cast_eq, List.flatten_cons, List.flatten_nil, List.append_nil]
  after_results <;> rfl

/-- The text the region finds: the argument's, transposed. -/
theorem V_emb (c : Dev nD) : V m c main_call0_v0
    = (transpose S77x1024x768 [1, 0, 2] (m ((c : Thread nD τ).loc main_arg1)) transposes_S1024x77x768_S77x1024x768_1_0_2 : S77x1024x768.Idx → Elt F .f32) := by
  show StableHlo.after _ _ _ = _
  simp only [hostOps0, TRef.unary, TRef.reshape, TRef.toBuf, TRef.ofBuf, cast_eq, List.flatten_cons, List.flatten_nil, List.append_nil]
  after_results <;> rfl

/-- The placeholder's row the region finds: the argument's, under one more axis. -/
theorem V_ph (c : Dev nD) : V m c main_call0_v2
    = (shapeCast S1x1x768 (m ((c : Thread nD τ).loc main_arg2)) shapeCasts_S1x768_S1x1x768 : S1x1x768.Idx → Elt F .f32) := by
  show StableHlo.after _ _ _ = _
  simp only [hostOps0, TRef.unary, TRef.reshape, TRef.toBuf, TRef.ofBuf, cast_eq, List.flatten_cons, List.flatten_nil, List.append_nil]
  after_results <;> rfl

/-- The result: the region's, transposed back. -/
theorem final_res (c : Dev nD) : final m c main_v0
    = (transpose S1024x77x768 [1, 0, 2] (OUT m c) transposes_S77x1024x768_S1024x77x768_1_0_2 : S1024x77x768.Idx → Elt F .f32) := by
  have e : (Pipeline.withArrays (cfg0.spec) c (Pipeline.withR (V0 m c) R0 c (G m c)) fun w => (dats m 0 c).arrAt w cfg0.N) (Proc.devRef .tc main_call0_v3) = OUT m c := by
    rw [Pipeline.withArrays_of_ne _ c _ _ main_call0_v3 (fun w => w.elim0), Pipeline.withR_of_mem _ _ _ _ main_call0_v3 (by decide), G_res]
  unfold final
  simp only [hostOps1, TRef.unary, TRef.toBuf, TRef.ofBuf, cast_eq, List.flatten_cons, List.flatten_nil, List.append_nil]
  rw [← e]
  after_results <;> rfl

/-! ## The result, element by element -/

/-- The result at an index, of the arguments: the placeholder's element where the token is 500, the text's elsewhere. -/
def chosen (A : S1024x77.Idx → BitVec 32) (E : S1024x77x768.Idx → Elt F .f32) (P : S1x768.Idx → Elt F .f32) : S1024x77x768.Idx → Elt F .f32 :=
  fun j => if A (Shape.pair (d := ![1024, 77]) (j 0) (j 1)) = 500#32 then P (Shape.pair (d := ![1, 768]) ⟨0, Nat.one_pos⟩ (j 2)) else E j

/-- The index `j` reads after the transposition. -/
abbrev swapped (j : S1024x77x768.Idx) : S77x1024x768.Idx := fun b => match b with
  | ⟨0, _⟩ => j 1
  | ⟨1, _⟩ => j 0
  | ⟨2, _⟩ => j 2

/-- The kernel's result is the elementwise choice. -/
theorem final_chosen (c : Dev nD) : final m c main_v0
    = chosen (F := F) (m ((c : Thread nD τ).loc main_arg0)) (m ((c : Thread nD τ).loc main_arg1)) (m ((c : Thread nD τ).loc main_arg2)) := by
  rw [final_res]
  funext j
  rw [transpose_apply _ _ _ j (swapped j) (by intro b; fin_cases b <;> rfl)]
  unfold OUT outH outAt chosen
  have eT : tokH.view.read (Elt F) (V m c main_call0_v1) (rowCol (swapped j)) = m ((c : Thread nD τ).loc main_arg0) (Shape.pair (d := ![1024, 77]) (j 0) (j 1)) := by
    rw [V_tok]
    exact transpose_apply _ _ _ _ _ (by intro b; fin_cases b <;> rfl)
  have eP : phH.view.read (Elt F) (V m c main_call0_v2) (lane (swapped j)) = m ((c : Thread nD τ).loc main_arg2) (Shape.pair (d := ![1, 768]) ⟨0, Nat.one_pos⟩ (j 2)) := by
    rw [V_ph]
    refine (shapeCast_addUnit_apply ![1, 768] _ _ _).trans (congrArg _ ?_)
    funext b; fin_cases b <;> rfl
  have eE : V m c main_call0_v0 (swapped j) = m ((c : Thread nD τ).loc main_arg1) j := by
    rw [V_emb]
    exact transpose_apply _ _ _ _ _ (by intro b; fin_cases b <;> rfl)
  rw [eT, eP, eE]

/-! ## The runs -/

/-- The frame: the kernel runs to its end, its arguments as launched, every semaphore at zero; and its result is the choice. -/
theorem run_chosen : θ_run defs (onTc (τ := τ) (main (F := F))) ⟨m, fun _ => 0, ρ⟩ (fun r => (∀ c : Dev nD,
      r.2.mem ((c.tc : Thread nD τ).loc main_v0)
        = chosen (F := F) (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c =>
    ⟨(h.1 c main_v0 (Pipeline.mem_restRefs_of main_v0 (by decide) (by decide))).trans (final_chosen m c),
      ((h.1 c main_arg0 (Pipeline.mem_restRefs_of main_arg0 (by decide) (by decide))).trans (final_of_ne m c main_arg0 (by decide) (by decide))).trans (V_main_arg0 m c),
      ((h.1 c main_arg1 (Pipeline.mem_restRefs_of main_arg1 (by decide) (by decide))).trans (final_of_ne m c main_arg1 (by decide) (by decide))).trans (V_main_arg1 m c),
      ((h.1 c main_arg2 (Pipeline.mem_restRefs_of main_arg2 (by decide) (by decide))).trans (final_of_ne m c main_arg2 (by decide) (by decide))).trans (V_main_arg2 m c)⟩, h.2⟩)
    (run_main m ρ)

end Cert.KernelIdeal.Stream
-- ==== Proof.Frame.lean ====
/-
  The kernel over the machine's floats: its text is the text read over the ideal floats, so the run proved of that text at any
  float values is its run too.
-/
module

public import proofs.«01_k».proof.Proof.Value
public import proofs.«01_k».proof.Proof.Gen.Kernel
public import Idealize.ShloMosaic.PureOps.BitExact

@[expose] public section

noncomputable section

namespace Cert.Kernel.Stream

open Idealize.ShloMosaic Idealize.ShloMosaic.TcCoe Idealize.SL.Sem
open Cert.Kernel.Gen Cert.KernelIdeal.Gen

variable {F : FTy → Type} [FloatOps F]

/-- The two programs state one signature. -/
theorem sig_eq : Cert.Kernel.sig = Cert.KernelIdeal.sig := rfl

/-- The two programs' launched functions are one table. -/
theorem defs_eq : (Cert.Kernel.defs (F := F)) = (Cert.KernelIdeal.defs (F := F)) := rfl

/-- The two programs' main functions are one. -/
theorem main_eq : (Cert.Kernel.main (F := F)) = (Cert.KernelIdeal.main (F := F)) := rfl

/-- The kernel over any float values runs to its end, its arguments as launched, every semaphore at zero. -/
theorem run_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0) :=
  (θ_run (Cert.KernelIdeal.defs (F := F)) _ _).mono (fun r h => ⟨fun c => (h.1 c).2, h.2⟩) (Cert.KernelIdeal.Stream.run_chosen m ρ)

end Cert.Kernel.Stream
-- ==== Proof.Equation.lean ====
/-
  The reference's result is the same elementwise choice.
-/
module

public import proofs.«01_k».proof.Proof.Value
public import proofs.«01_k».proof.Proof.Gen.ReferenceIdeal.Run

@[expose] public section

noncomputable section

namespace Cert.ReferenceIdeal.Stream

open Cert.ReferenceIdeal Cert.ReferenceIdeal.Gen
open Idealize.ShloMosaic Idealize.ShloMosaic.TcCoe Idealize.ShloMosaic.StableHlo
open Idealize.SL.Sem

variable {F : FTy → Type} [FloatOps F]

/-- The mask the reference spreads over the last axis, at an index: whether the token there is 500. -/
theorem mask_at (A : S1024x77.Idx → BitVec 32) (j : S1024x77x768.Idx) :
    (broadcastInDim S1024x77x768 ![0, 1, 2] bcast_S1024x77x1_S1024x77x768_0_1_2 (broadcastInDim S1024x77x1 ![0, 1] bcast_S1024x77_S1024x77x1_0_1
      (cmpi .eq A (broadcastInDim S1024x77 ![] bcast_S_S1024x77 (constantI S_ 32 500#32)))) : S1024x77x768.Idx → BitVec 1) j
      = IntOp.cmpi .eq (A (Shape.pair (d := ![1024, 77]) (j 0) (j 1))) 500#32 := by
  let k : S1024x77x1.Idx := fun b => match b with | ⟨0, _⟩ => j 0 | ⟨1, _⟩ => j 1 | ⟨2, _⟩ => (⟨0, Nat.one_pos⟩ : Fin 1)
  exact (broadcastInDim_apply _ _ _ j k (by intro b; fin_cases b <;> rfl)).trans
    (broadcastInDim_apply _ _ _ k (Shape.pair (d := ![1024, 77]) (j 0) (j 1)) (by intro b; fin_cases b <;> rfl))

/-- The placeholder's row the reference spreads over the first two axes, at an index: the row's element of the last coordinate. -/
theorem row_at (P : S1x768.Idx → Elt F .f32) (j : S1024x77x768.Idx) :
    (broadcastInDim S1024x77x768 ![0, 1, 2] bcast_S1x1x768_S1024x77x768_0_1_2 (broadcastInDim S1x1x768 ![2] bcast_S768_S1x1x768_2
      (shapeCast S768 P shapeCasts_S1x768_S768)) : S1024x77x768.Idx → Elt F .f32) j
      = P (Shape.pair (d := ![1, 768]) ⟨0, Nat.one_pos⟩ (j 2)) := by
  let k : S1x1x768.Idx := fun b => match b with | ⟨0, _⟩ => (⟨0, Nat.one_pos⟩ : Fin 1) | ⟨1, _⟩ => (⟨0, Nat.one_pos⟩ : Fin 1) | ⟨2, _⟩ => j 2
  let l : S768.Idx := fun b => match b with | ⟨0, _⟩ => j 2
  refine ((broadcastInDim_apply _ _ _ j k (by intro b; fin_cases b <;> rfl)).trans
    (broadcastInDim_apply _ _ _ k l (by intro b; fin_cases b; rfl))).trans ?_
  refine (shapeCast_dropUnit_apply ![768] _ _ _).trans (congrArg P ?_)
  funext b; fin_cases b <;> rfl

/-- The reference's composed term is the elementwise choice. -/
theorem select_chosen (A : S1024x77.Idx → BitVec 32) (E : S1024x77x768.Idx → Elt F .f32) (P : S1x768.Idx → Elt F .f32) :
    (select (broadcastInDim S1024x77x768 ![0, 1, 2] bcast_S1024x77x1_S1024x77x768_0_1_2 (broadcastInDim S1024x77x1 ![0, 1] bcast_S1024x77_S1024x77x1_0_1
        (cmpi .eq A (broadcastInDim S1024x77 ![] bcast_S_S1024x77 (constantI S_ 32 500#32)))))
      (broadcastInDim S1024x77x768 ![0, 1, 2] bcast_S1x1x768_S1024x77x768_0_1_2 (broadcastInDim S1x1x768 ![2] bcast_S768_S1x1x768_2
        (shapeCast S768 P shapeCasts_S1x768_S768))) E : S1024x77x768.Idx → Elt F .f32)
      = Cert.KernelIdeal.Stream.chosen (F := F) A E P := by
  funext j
  show Scalar.select _ _ _ = _
  rw [mask_at, row_at]
  unfold Scalar.select Cert.KernelIdeal.Stream.chosen
  exact if_congr (Cert.KernelIdeal.Stream.cmpi_eq_one _ _) rfl rfl

variable (m : (ℓ : Loc nD τ sig) → Buf (Elt F) ℓ) (ρ : Dev nD → PrngReg)

/-- The reference runs to its end, its arguments as launched, every semaphore at zero; and its result is the choice. -/
theorem run_chosen : θ_run defs (onTc (τ := τ) (main (F := F))) ⟨m, fun _ => 0, ρ⟩ (fun r => (∀ c : Dev nD,
      r.2.mem ((c.tc : Thread nD τ).loc main_v5)
        = Cert.KernelIdeal.Stream.chosen (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun r h => ⟨fun c => ⟨(h c).1.trans (select_chosen _ _ _), (h c).2⟩, sem_eq_zero_of_no_sems (by decide) r.2⟩)
    (Cert.ReferenceIdeal.Value.run m ρ)

end Cert.ReferenceIdeal.Stream
-- ==== Proof.lean ====
/-
  The claims, assembled: the kernel's frame over the machine's floats and over the ideal ones, the reference's frame, the
  idealization's preservation, and the kernel's result equal to the reference's.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frame
public import proofs.«01_k».proof.Proof.Equation
public import Idealize.ShloMosaic.Adequacy
public import Idealize.ShloMosaic.Init

@[expose] public section

noncomputable section

namespace Cert.Proof

open Idealize.ShloMosaic Idealize.SL.Sem

/-- The kernel over the machine's floats runs, leaves its arguments and ends with every semaphore at zero. -/
theorem quiescent_kernel : Cert.quiescent_Kernel (hKernel := Cert.Kernel.Gen.facts) :=
  fun m g _ => Cert.Kernel.Stream.run_frame m g

/-- The kernel over the ideal floats runs, leaves its arguments and ends with every semaphore at zero. -/
theorem quiescent_ideal : Cert.quiescent_KernelIdeal (hKernelIdeal := Cert.KernelIdeal.Gen.facts) :=
  fun m g _ => (θ_run _ _ _).mono (fun _ h => ⟨fun c => (h.1 c).2, h.2⟩) (Cert.KernelIdeal.Stream.run_chosen m g)

/-- The reference runs, leaves its arguments and ends with every semaphore at zero. -/
theorem quiescent_reference : Cert.quiescent_ReferenceIdeal (hReferenceIdeal := Cert.ReferenceIdeal.Gen.facts) :=
  fun m g _ => (θ_run _ _ _).mono (fun _ h => ⟨fun c => (h.1 c).2, h.2⟩) (Cert.ReferenceIdeal.Stream.run_chosen m g)

/-- From memories agreeing on the arguments, the kernel and the reference both end with the elementwise choice of them. -/
theorem algebraic : Cert.algebraic_KernelIdeal_ReferenceIdeal (hKernelIdeal := Cert.KernelIdeal.Gen.facts) (hReferenceIdeal := Cert.ReferenceIdeal.Gen.facts) := by
  intro m g m' g' _ ha
  refine ⟨_, (θ_run _ _ _).mono (fun _ h => h.1) (Cert.KernelIdeal.Stream.run_chosen m g),
    (θ_run _ _ _).mono (fun _ h c => ⟨(h.1 c).1.trans ?_, (h.1 c).2⟩) (Cert.ReferenceIdeal.Stream.run_chosen m' g')⟩
  rw [(ha c).1, (ha c).2.1, (ha c).2.2]

/-- Every claim of the certificate. -/
theorem claim : Cert.Claim :=
  ⟨Cert.Kernel.Gen.facts, Cert.KernelIdeal.Gen.facts, Cert.ReferenceIdeal.Gen.facts,
    quiescent_kernel, quiescent_ideal, quiescent_reference, trivial, algebraic⟩

end Cert.Proof

end
